-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x256x448x32 : Shape := ⟨4, ![16, 256, 448, 32]⟩
abbrev S1 : Shape := ⟨1, ![1]⟩
abbrev S1x3x3x32 : Shape := ⟨4, ![1, 3, 3, 32]⟩
abbrev S32 : Shape := ⟨1, ![32]⟩
abbrev S16x448x32x256 : Shape := ⟨4, ![16, 448, 32, 256]⟩
abbrev S1x32 : Shape := ⟨2, ![1, 32]⟩
abbrev S3x32 : Shape := ⟨2, ![3, 32]⟩
abbrev S16x224x32x128 : Shape := ⟨4, ![16, 224, 32, 128]⟩
abbrev S1x448x32x256 : Shape := ⟨4, ![1, 448, 32, 256]⟩
abbrev S1x224x32x128 : Shape := ⟨4, ![1, 224, 32, 128]⟩
abbrev S32x288 : Shape := ⟨2, ![32, 288]⟩
abbrev S3x32x128 : Shape := ⟨3, ![3, 32, 128]⟩
abbrev S3x3x32 : Shape := ⟨3, ![3, 3, 32]⟩
abbrev S9x32 : Shape := ⟨2, ![9, 32]⟩
abbrev S32x32 : Shape := ⟨2, ![32, 32]⟩
abbrev S5x32 : Shape := ⟨2, ![5, 32]⟩
abbrev S8x32 : Shape := ⟨2, ![8, 32]⟩
abbrev S8x96 : Shape := ⟨2, ![8, 96]⟩
abbrev S8x128 : Shape := ⟨2, ![8, 128]⟩
abbrev S128x8 : Shape := ⟨2, ![128, 8]⟩
abbrev S32x1 : Shape := ⟨2, ![32, 1]⟩
abbrev S32x128 : Shape := ⟨2, ![32, 128]⟩
abbrev S1x32x128 : Shape := ⟨3, ![1, 32, 128]⟩
abbrev S1x1x32x256 : Shape := ⟨4, ![1, 1, 32, 256]⟩
abbrev S32x256 : Shape := ⟨2, ![32, 256]⟩
abbrev S8x256 : Shape := ⟨2, ![8, 256]⟩
abbrev S8x128x1 : Shape := ⟨3, ![8, 128, 1]⟩
abbrev S288x256 : Shape := ⟨2, ![288, 256]⟩
abbrev S1x1x32x128 : Shape := ⟨4, ![1, 1, 32, 128]⟩
abbrev S16x128x224x32 : Shape := ⟨4, ![16, 128, 224, 32]⟩

abbrev nBuf : Space → Nat
  | .hbm => 14
  | .vmem => 8
  | .smem => 2
  | _ => 0

abbrev bufTy : (tb : Table) → Fin (tcTables nBuf tb) → BufTy
  | .hbm, ⟨0, _⟩ => ⟨S16x256x448x32, .i8⟩
  | .hbm, ⟨1, _⟩ => ⟨S1, .i32⟩
  | .hbm, ⟨2, _⟩ => ⟨S1x3x3x32, .i8⟩
  | .hbm, ⟨3, _⟩ => ⟨S32, .i32⟩
  | .hbm, ⟨4, _⟩ => ⟨S32, .i32⟩
  | .hbm, ⟨5, _⟩ => ⟨S32, .i32⟩
  | .hbm, ⟨6, _⟩ => ⟨S1, .i32⟩
  | .hbm, ⟨7, _⟩ => ⟨S16x448x32x256, .i8⟩
  | .hbm, ⟨8, _⟩ => ⟨S1x32, .i32⟩
  | .hbm, ⟨9, _⟩ => ⟨S1x32, .i32⟩
  | .hbm, ⟨10, _⟩ => ⟨S1x32, .i32⟩
  | .hbm, ⟨11, _⟩ => ⟨S3x32, .i32⟩
  | .hbm, ⟨12, _⟩ => ⟨S16x224x32x128, .i8⟩
  | .hbm, ⟨13, _⟩ => ⟨S16x128x224x32, .i8⟩
  | .local _ .vmem, ⟨0, _⟩ => ⟨S1x448x32x256, .i8⟩
  | .local _ .vmem, ⟨1, _⟩ => ⟨S1x448x32x256, .i8⟩
  | .local _ .vmem, ⟨2, _⟩ => ⟨S1x3x3x32, .i8⟩
  | .local _ .vmem, ⟨3, _⟩ => ⟨S3x32, .i32⟩
  | .local _ .vmem, ⟨4, _⟩ => ⟨S1x224x32x128, .i8⟩
  | .local _ .vmem, ⟨5, _⟩ => ⟨S1x224x32x128, .i8⟩
  | .local _ .vmem, ⟨6, _⟩ => ⟨S32x288, .bf16⟩
  | .local _ .vmem, ⟨7, _⟩ => ⟨S3x32x128, .i32⟩
  | .local _ .smem, ⟨0, _⟩ => ⟨S1, .i32⟩
  | .local _ .smem, ⟨1, _⟩ => ⟨S1, .i32⟩
  | _, _ => ⟨S16x256x448x32, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg5_1 : Ref sig .tc := ⟨.vmem, 5, rfl⟩
abbrev cc0_scratch0 : Ref sig .tc := ⟨.vmem, 6, rfl⟩
abbrev cc0_scratch1 : Ref sig .tc := ⟨.vmem, 7, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_8 : BitVec 32 := 0#32
  let c112_i32 : BitVec 32 := 112#32
  let v29 : BitVec 32 := Scalar.addi c0_i32_8 c112_i32
  let c1_i32_9 : BitVec 32 := 1#32
  ⟨c0_i32_8, v29, c1_i32_9⟩
def k0_off1 (k0_t1 : Fin k0_t1_loop.trips) : Fin 4 → Nat :=
  let c0_12 : Index := 0#32
  let c2_i32_11 : BitVec 32 := 2#32
  let c0_i32_8 : BitVec 32 := 0#32
  let c1_i32_9 : BitVec 32 := 1#32
  let arg9 : BitVec 32 := Scf.iv c0_i32_8 c1_i32_9 k0_t1
  let v30 : BitVec 32 := Scalar.muli c2_i32_11 arg9
  let v31 : Index := Scalar.indexCast v30
  let c0_13 : Index := 0#32
  let c0_14 : Index := 0#32
  ![0, v31.toNat, 0, 0]
def k0_off2 (k0_t1 : Fin k0_t1_loop.trips) : Fin 4 → Nat :=
  let c0_22 : Index := 0#32
  let c2_i32_20 : BitVec 32 := 2#32
  let c0_i32_8 : BitVec 32 := 0#32
  let c1_i32_9 : BitVec 32 := 1#32
  let arg9 : BitVec 32 := Scf.iv c0_i32_8 c1_i32_9 k0_t1
  let v60 : BitVec 32 := Scalar.muli c2_i32_20 arg9
  let c1_i32_21 : BitVec 32 := 1#32
  let v61 : BitVec 32 := Scalar.addi v60 c1_i32_21
  let v62 : Index := Scalar.indexCast v61
  let c0_23 : Index := 0#32
  let c0_24 : Index := 0#32
  ![0, v62.toNat, 0, 0]
def k0_off3 (k0_t1 : Fin k0_t1_loop.trips) : Fin 4 → Nat :=
  let c0_34 : Index := 0#32
  let c2_i32_32 : BitVec 32 := 2#32
  let c0_i32_8 : BitVec 32 := 0#32
  let c1_i32_9 : BitVec 32 := 1#32
  let arg9 : BitVec 32 := Scf.iv c0_i32_8 c1_i32_9 k0_t1
  let v92 : BitVec 32 := Scalar.muli c2_i32_32 arg9
  let c2_i32_33 : BitVec 32 := 2#32
  let v93 : BitVec 32 := Scalar.addi v92 c2_i32_33
  let c447_i32 : BitVec 32 := 447#32
  let v94 : BitVec 32 := Scalar.minsi v93 c447_i32
  let v95 : Index := Scalar.indexCast v94
  let c0_35 : Index := 0#32
  let c0_36 : Index := 0#32
  ![0, v95.toNat, 0, 0]
def k0_off4 (k0_t1 : Fin k0_t1_loop.trips) : Fin 4 → Nat :=
  let c0_46 : Index := 0#32
  let c2_i32_45 : BitVec 32 := 2#32
  let c0_i32_8 : BitVec 32 := 0#32
  let c1_i32_9 : BitVec 32 := 1#32
  let arg9 : BitVec 32 := Scf.iv c0_i32_8 c1_i32_9 k0_t1
  let c112_i32_44 : BitVec 32 := 112#32
  let v127 : BitVec 32 := Scalar.addi arg9 c112_i32_44
  let v128 : BitVec 32 := Scalar.muli c2_i32_45 v127
  let v129 : Index := Scalar.indexCast v128
  let c0_47 : Index := 0#32
  let c0_48 : Index := 0#32
  ![0, v129.toNat, 0, 0]
def k0_off5 (k0_t1 : Fin k0_t1_loop.trips) : Fin 4 → Nat :=
  let c0_58 : Index := 0#32
  let c2_i32_56 : BitVec 32 := 2#32
  let c0_i32_8 : BitVec 32 := 0#32
  let c1_i32_9 : BitVec 32 := 1#32
  let arg9 : BitVec 32 := Scf.iv c0_i32_8 c1_i32_9 k0_t1
  let c112_i32_44 : BitVec 32 := 112#32
  let v127 : BitVec 32 := Scalar.addi arg9 c112_i32_44
  let v158 : BitVec 32 := Scalar.muli c2_i32_56 v127
  let c1_i32_57 : BitVec 32 := 1#32
  let v159 : BitVec 32 := Scalar.addi v158 c1_i32_57
  let v160 : Index := Scalar.indexCast v159
  let c0_59 : Index := 0#32
  let c0_60 : Index := 0#32
  ![0, v160.toNat, 0, 0]
def k0_off6 (k0_t1 : Fin k0_t1_loop.trips) : Fin 4 → Nat :=
  let c0_72 : Index := 0#32
  let c2_i32_69 : BitVec 32 := 2#32
  let c0_i32_8 : BitVec 32 := 0#32
  let c1_i32_9 : BitVec 32 := 1#32
  let arg9 : BitVec 32 := Scf.iv c0_i32_8 c1_i32_9 k0_t1
  let c112_i32_44 : BitVec 32 := 112#32
  let v127 : BitVec 32 := Scalar.addi arg9 c112_i32_44
  let v190 : BitVec 32 := Scalar.muli c2_i32_69 v127
  let c2_i32_70 : BitVec 32 := 2#32
  let v191 : BitVec 32 := Scalar.addi v190 c2_i32_70
  let c447_i32_71 : BitVec 32 := 447#32
  let v192 : BitVec 32 := Scalar.minsi v191 c447_i32_71
  let v193 : Index := Scalar.indexCast v192
  let c0_73 : Index := 0#32
  let c0_74 : Index := 0#32
  ![0, v193.toNat, 0, 0]
def k0_off7 (k0_t1 : Fin k0_t1_loop.trips) (c0_i32_108 : BitVec 32) : Fin 4 → Nat :=
  let c0_109 : Index := 0#32
  let c0_i32_8 : BitVec 32 := 0#32
  let c1_i32_9 : BitVec 32 := 1#32
  let arg9 : BitVec 32 := Scf.iv c0_i32_8 c1_i32_9 k0_t1
  let v323 : BitVec 32 := Scalar.addi arg9 c0_i32_108
  let v324 : Index := Scalar.indexCast v323
  let c0_110 : Index := 0#32
  let c0_111 : Index := 0#32
  ![0, v324.toNat, 0, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x448x32x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x3x3x32 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x32 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x224x32x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16x256x448x32 : Shape := ⟨4, ![16, 256, 448, 32]⟩
abbrev S1 : Shape := ⟨1, ![1]⟩
abbrev S1x3x3x32 : Shape := ⟨4, ![1, 3, 3, 32]⟩
abbrev S32 : Shape := ⟨1, ![32]⟩
abbrev S_ : Shape := ⟨0, ![]⟩
abbrev S16x257x449x32 : Shape := ⟨4, ![16, 257, 449, 32]⟩
abbrev S16x128x224x32 : Shape := ⟨4, ![16, 128, 224, 32]⟩
abbrev S1x1x1x32 : Shape := ⟨4, ![1, 1, 1, 32]⟩

abbrev nBuf : Space → Nat
  | .hbm => 198
  | .vmem => 0
  | .smem => 0
  | _ => 0

abbrev hbmTy0_0 (i : Nat) : BufTy := match i % 128 with
  | 0 => ⟨S16x256x448x32, .i8⟩
  | 1 => ⟨S1, .i32⟩
  | 2 => ⟨S1x3x3x32, .i8⟩
  | 3 => ⟨S32, .i32⟩
  | 4 => ⟨S32, .i32⟩
  | 5 => ⟨S32, .i32⟩
  | 6 => ⟨S1, .i32⟩
  | 7 => ⟨S_, .i32⟩
  | 8 => ⟨S_, .i8⟩
  | 9 => ⟨S16x257x449x32, .i8⟩
  | 10 => ⟨S_, .i32⟩
  | 11 => ⟨S16x128x224x32, .i32⟩
  | 12 => ⟨S16x128x224x32, .i8⟩
  | 13 => ⟨S16x128x224x32, .i32⟩
  | 14 => ⟨S1x1x1x32, .i8⟩
  | 15 => ⟨S32, .i8⟩
  | 16 => ⟨S32, .i32⟩
  | 17 => ⟨S1x1x1x32, .i32⟩
  | 18 => ⟨S16x128x224x32, .i32⟩
  | 19 => ⟨S16x128x224x32, .i32⟩
  | 20 => ⟨S16x128x224x32, .i32⟩
  | 21 => ⟨S16x128x224x32, .i8⟩
  | 22 => ⟨S16x128x224x32, .i32⟩
  | 23 => ⟨S1x1x1x32, .i8⟩
  | 24 => ⟨S32, .i8⟩
  | 25 => ⟨S32, .i32⟩
  | 26 => ⟨S1x1x1x32, .i32⟩
  | 27 => ⟨S16x128x224x32, .i32⟩
  | 28 => ⟨S16x128x224x32, .i32⟩
  | 29 => ⟨S16x128x224x32, .i32⟩
  | 30 => ⟨S16x128x224x32, .i8⟩
  | 31 => ⟨S16x128x224x32, .i32⟩
  | 32 => ⟨S1x1x1x32, .i8⟩
  | 33 => ⟨S32, .i8⟩
  | 34 => ⟨S32, .i32⟩
  | 35 => ⟨S1x1x1x32, .i32⟩
  | 36 => ⟨S16x128x224x32, .i32⟩
  | 37 => ⟨S16x128x224x32, .i32⟩
  | 38 => ⟨S16x128x224x32, .i32⟩
  | 39 => ⟨S16x128x224x32, .i8⟩
  | 40 => ⟨S16x128x224x32, .i32⟩
  | 41 => ⟨S1x1x1x32, .i8⟩
  | 42 => ⟨S32, .i8⟩
  | 43 => ⟨S32, .i32⟩
  | 44 => ⟨S1x1x1x32, .i32⟩
  | 45 => ⟨S16x128x224x32, .i32⟩
  | 46 => ⟨S16x128x224x32, .i32⟩
  | 47 => ⟨S16x128x224x32, .i32⟩
  | 48 => ⟨S16x128x224x32, .i8⟩
  | 49 => ⟨S16x128x224x32, .i32⟩
  | 50 => ⟨S1x1x1x32, .i8⟩
  | 51 => ⟨S32, .i8⟩
  | 52 => ⟨S32, .i32⟩
  | 53 => ⟨S1x1x1x32, .i32⟩
  | 54 => ⟨S16x128x224x32, .i32⟩
  | 55 => ⟨S16x128x224x32, .i32⟩
  | 56 => ⟨S16x128x224x32, .i32⟩
  | 57 => ⟨S16x128x224x32, .i8⟩
  | 58 => ⟨S16x128x224x32, .i32⟩
  | 59 => ⟨S1x1x1x32, .i8⟩
  | 60 => ⟨S32, .i8⟩
  | 61 => ⟨S32, .i32⟩
  | 62 => ⟨S1x1x1x32, .i32⟩
  | 63 => ⟨S16x128x224x32, .i32⟩
  | 64 => ⟨S16x128x224x32, .i32⟩
  | 65 => ⟨S16x128x224x32, .i32⟩
  | 66 => ⟨S16x128x224x32, .i8⟩
  | 67 => ⟨S16x128x224x32, .i32⟩
  | 68 => ⟨S1x1x1x32, .i8⟩
  | 69 => ⟨S32, .i8⟩
  | 70 => ⟨S32, .i32⟩
  | 71 => ⟨S1x1x1x32, .i32⟩
  | 72 => ⟨S16x128x224x32, .i32⟩
  | 73 => ⟨S16x128x224x32, .i32⟩
  | 74 => ⟨S16x128x224x32, .i32⟩
  | 75 => ⟨S16x128x224x32, .i8⟩
  | 76 => ⟨S16x128x224x32, .i32⟩
  | 77 => ⟨S1x1x1x32, .i8⟩
  | 78 => ⟨S32, .i8⟩
  | 79 => ⟨S32, .i32⟩
  | 80 => ⟨S1x1x1x32, .i32⟩
  | 81 => ⟨S16x128x224x32, .i32⟩
  | 82 => ⟨S16x128x224x32, .i32⟩
  | 83 => ⟨S16x128x224x32, .i32⟩
  | 84 => ⟨S16x128x224x32, .i8⟩
  | 85 => ⟨S16x128x224x32, .i32⟩
  | 86 => ⟨S1x1x1x32, .i8⟩
  | 87 => ⟨S32, .i8⟩
  | 88 => ⟨S32, .i32⟩
  | 89 => ⟨S1x1x1x32, .i32⟩
  | 90 => ⟨S16x128x224x32, .i32⟩
  | 91 => ⟨S16x128x224x32, .i32⟩
  | 92 => ⟨S16x128x224x32, .i32⟩
  | 93 => ⟨S1x3x3x32, .i32⟩
  | 94 => ⟨S_, .i32⟩
  | 95 => ⟨S32, .i32⟩
  | 96 => ⟨S32, .i32⟩
  | 97 => ⟨S32, .i32⟩
  | 98 => ⟨S1x1x1x32, .i32⟩
  | 99 => ⟨S16x128x224x32, .i32⟩
  | 100 => ⟨S16x128x224x32, .i32⟩
  | 101 => ⟨S1x1x1x32, .i32⟩
  | 102 => ⟨S16x128x224x32, .i32⟩
  | 103 => ⟨S16x128x224x32, .i32⟩
  | 104 => ⟨S_, .i32⟩
  | 105 => ⟨S_, .i32⟩
  | 106 => ⟨S16x128x224x32, .i32⟩
  | 107 => ⟨S16x128x224x32, .i32⟩
  | 108 => ⟨S_, .i32⟩
  | 109 => ⟨S16x128x224x32, .i32⟩
  | 110 => ⟨S16x128x224x32, .i32⟩
  | 111 => ⟨S_, .i32⟩
  | 112 => ⟨S32, .i32⟩
  | 113 => ⟨S32, .i32⟩
  | 114 => ⟨S_, .i32⟩
  | 115 => ⟨S32, .i32⟩
  | 116 => ⟨S32, .i32⟩
  | 117 => ⟨S1x1x1x32, .i32⟩
  | 118 => ⟨S16x128x224x32, .i32⟩
  | 119 => ⟨S16x128x224x32, .i32⟩
  | 120 => ⟨S1x1x1x32, .i32⟩
  | 121 => ⟨S16x128x224x32, .i32⟩
  | 122 => ⟨S16x128x224x32, .i32⟩
  | 123 => ⟨S1x1x1x32, .i32⟩
  | 124 => ⟨S16x128x224x32, .i32⟩
  | 125 => ⟨S16x128x224x32, .i32⟩
  | 126 => ⟨S16x128x224x32, .i32⟩
  | 127 => ⟨S32, .i32⟩
  | _ => ⟨S16x256x448x32, .i8⟩

abbrev hbmTy0_1 (i : Nat) : BufTy := match i % 128 with
  | 0 => ⟨S1x1x1x32, .i32⟩
  | 1 => ⟨S16x128x224x32, .i32⟩
  | 2 => ⟨S16x128x224x32, .i32⟩
  | 3 => ⟨S_, .i32⟩
  | 4 => ⟨S16x128x224x32, .i32⟩
  | 5 => ⟨S16x128x224x32, .i32⟩
  | 6 => ⟨S_, .i32⟩
  | 7 => ⟨S16x128x224x32, .i32⟩
  | 8 => ⟨S16x128x224x32, .i32⟩
  | 9 => ⟨S16x128x224x32, .i32⟩
  | 10 => ⟨S_, .i32⟩
  | 11 => ⟨S16x128x224x32, .i32⟩
  | 12 => ⟨S16x128x224x32, .i32⟩
  | 13 => ⟨S16x128x224x32, .i32⟩
  | 14 => ⟨S16x128x224x32, .i32⟩
  | 15 => ⟨S_, .i32⟩
  | 16 => ⟨S16x128x224x32, .i32⟩
  | 17 => ⟨S16x128x224x32, .i32⟩
  | 18 => ⟨S_, .i32⟩
  | 19 => ⟨S16x128x224x32, .i32⟩
  | 20 => ⟨S16x128x224x32, .i32⟩
  | 21 => ⟨S16x128x224x32, .i32⟩
  | 22 => ⟨S_, .i32⟩
  | 23 => ⟨S16x128x224x32, .i32⟩
  | 24 => ⟨S16x128x224x32, .i32⟩
  | 25 => ⟨S16x128x224x32, .i32⟩
  | 26 => ⟨S_, .i32⟩
  | 27 => ⟨S16x128x224x32, .i32⟩
  | 28 => ⟨S16x128x224x32, .i32⟩
  | 29 => ⟨S_, .i32⟩
  | 30 => ⟨S16x128x224x32, .i32⟩
  | 31 => ⟨S16x128x224x32, .i32⟩
  | 32 => ⟨S16x128x224x32, .i32⟩
  | 33 => ⟨S32, .i32⟩
  | 34 => ⟨S_, .i32⟩
  | 35 => ⟨S32, .i32⟩
  | 36 => ⟨S32, .i32⟩
  | 37 => ⟨S_, .i32⟩
  | 38 => ⟨S32, .i32⟩
  | 39 => ⟨S32, .i32⟩
  | 40 => ⟨S1x1x1x32, .i32⟩
  | 41 => ⟨S16x128x224x32, .i32⟩
  | 42 => ⟨S16x128x224x32, .i32⟩
  | 43 => ⟨S_, .i32⟩
  | 44 => ⟨S32, .i32⟩
  | 45 => ⟨S32, .i32⟩
  | 46 => ⟨S_, .i32⟩
  | 47 => ⟨S16x128x224x32, .i32⟩
  | 48 => ⟨S16x128x224x32, .i1⟩
  | 49 => ⟨S16x128x224x32, .i32⟩
  | 50 => ⟨S1x1x1x32, .i32⟩
  | 51 => ⟨S16x128x224x32, .i32⟩
  | 52 => ⟨S16x128x224x32, .i32⟩
  | 53 => ⟨S1x1x1x32, .i32⟩
  | 54 => ⟨S16x128x224x32, .i32⟩
  | 55 => ⟨S16x128x224x32, .i32⟩
  | 56 => ⟨S16x128x224x32, .i1⟩
  | 57 => ⟨S16x128x224x32, .i32⟩
  | 58 => ⟨S16x128x224x32, .i32⟩
  | 59 => ⟨S16x128x224x32, .i32⟩
  | 60 => ⟨S16x128x224x32, .i32⟩
  | 61 => ⟨S_, .i32⟩
  | 62 => ⟨S_, .i32⟩
  | 63 => ⟨S_, .i32⟩
  | 64 => ⟨S16x128x224x32, .i32⟩
  | 65 => ⟨S16x128x224x32, .i32⟩
  | 66 => ⟨S_, .i32⟩
  | 67 => ⟨S16x128x224x32, .i32⟩
  | 68 => ⟨S16x128x224x32, .i32⟩
  | 69 => ⟨S16x128x224x32, .i8⟩
  | _ => ⟨S16x256x448x32, .i8⟩

abbrev hbmTy (i : Nat) : BufTy := match i / 128 with
  | 0 => hbmTy0_0 i
  | 1 => hbmTy0_1 i
  | _ => ⟨S16x256x448x32, .i8⟩

abbrev bufTy : (tb : Table) → Fin (tcTables nBuf tb) → BufTy
  | .hbm, ⟨i, _⟩ => hbmTy i
  | _, _ => ⟨S16x256x448x32, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_c_0 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_c_1 : Ref sig .tc := ⟨.hbm, 105, rfl⟩
abbrev main_v96 : Ref sig .tc := ⟨.hbm, 106, rfl⟩
abbrev main_v97 : Ref sig .tc := ⟨.hbm, 107, rfl⟩
abbrev main_c_2 : Ref sig .tc := ⟨.hbm, 108, rfl⟩
abbrev main_v98 : Ref sig .tc := ⟨.hbm, 109, rfl⟩
abbrev main_v99 : Ref sig .tc := ⟨.hbm, 110, rfl⟩
abbrev main_c_3 : Ref sig .tc := ⟨.hbm, 111, rfl⟩
abbrev main_v100 : Ref sig .tc := ⟨.hbm, 112, rfl⟩
abbrev main_v101 : Ref sig .tc := ⟨.hbm, 113, rfl⟩
abbrev main_c_4 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_c_5 : Ref sig .tc := ⟨.hbm, 131, rfl⟩
abbrev main_v118 : Ref sig .tc := ⟨.hbm, 132, rfl⟩
abbrev main_v119 : Ref sig .tc := ⟨.hbm, 133, rfl⟩
abbrev main_c_6 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_c_7 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_c_8 : Ref sig .tc := ⟨.hbm, 143, rfl⟩
abbrev main_v127 : Ref sig .tc := ⟨.hbm, 144, rfl⟩
abbrev main_v128 : Ref sig .tc := ⟨.hbm, 145, rfl⟩
abbrev main_c_9 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_c_10 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_c_11 : Ref sig .tc := ⟨.hbm, 154, rfl⟩
abbrev main_v135 : Ref sig .tc := ⟨.hbm, 155, rfl⟩
abbrev main_v136 : Ref sig .tc := ⟨.hbm, 156, rfl⟩
abbrev main_c_12 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_c_13 : Ref sig .tc := ⟨.hbm, 162, rfl⟩
abbrev main_v141 : Ref sig .tc := ⟨.hbm, 163, rfl⟩
abbrev main_v142 : Ref sig .tc := ⟨.hbm, 164, rfl⟩
abbrev main_c_14 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_c_15 : Ref sig .tc := ⟨.hbm, 171, rfl⟩
abbrev main_v148 : Ref sig .tc := ⟨.hbm, 172, rfl⟩
abbrev main_v149 : Ref sig .tc := ⟨.hbm, 173, rfl⟩
abbrev main_c_16 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_c_17 : Ref sig .tc := ⟨.hbm, 189, rfl⟩
abbrev main_c_18 : Ref sig .tc := ⟨.hbm, 190, rfl⟩
abbrev main_call1_v0 : Ref sig .tc := ⟨.hbm, 191, rfl⟩
abbrev main_call1_v1 : Ref sig .tc := ⟨.hbm, 192, rfl⟩
abbrev main_call1_v2 : Ref sig .tc := ⟨.hbm, 193, rfl⟩
abbrev main_call1_v3 : Ref sig .tc := ⟨.hbm, 194, rfl⟩
abbrev main_call1_v4 : Ref sig .tc := ⟨.hbm, 195, rfl⟩
abbrev main_v164 : Ref sig .tc := ⟨.hbm, 196, rfl⟩
abbrev main_v165 : Ref sig .tc := ⟨.hbm, 197, rfl⟩

abbrev nD : Nat := 1
abbrev τ : Topo := Topo.v7x

variable {F : FTy → Type} [FloatOps F]
-- ==== Proof.Taps.lean ====
/- Deinterleaving one column of the image: the kernel reads a `32 × 256` slab of bytes as `8 × 256` words, picks the even
   and the odd lanes, and reads the words as bytes again. Here each such tap is read at an index. -/
module

public import proofs.«01_k».proof.Proof.Gen.KernelIdeal.Skeleton
public import Idealize.ShloMosaic.Lib.Pointwise
public import Idealize.ShloMosaic.Lib.BitcastFour
public import Idealize.ShloMosaic.Lib.KernelVsHost

@[expose] public section

set_option maxRecDepth 16384

noncomputable section

namespace Cert.Dw

open Cert.KernelIdeal Cert.KernelIdeal.Gen Idealize.ShloMosaic Idealize.ShloMosaic.TcCoe

/-- A permutation of lanes with its negative entries wrapped around, as the gather takes it. -/
def wrap (p : IVec S8x128 32) : IVec S8x128 32 :=
  shapeCast S8x128 (shapeCast S8x128x1
    (select (cmpi .slt p (broadcast S8x128 0#32)) (addi p (broadcast S8x128 128#32)) p)
    shapeCasts_S8x128_S8x128x1) shapeCasts_S8x128x1_S8x128

/-- The left half's lanes in the first order: even ones first, then odd ones. -/
def g0 (v : IVec S8x256 32) : IVec S8x128 32 :=
  dynamicGather 1 (extractStridedSlice S8x128 ![0, 0] v slices_S8x256_o0_0_S8x128) (wrap k0_pay3)

/-- The right half's lanes in the second order: odd ones first, then even ones. -/
def g1 (v : IVec S8x256 32) : IVec S8x128 32 :=
  dynamicGather 1 (extractStridedSlice S8x128 ![0, 128] v slices_S8x256_o0_128_S8x128) (wrap k0_pay4)

/-- The even lanes. -/
def even (v : IVec S8x256 32) : IVec S8x128 32 := select k0_pay2 (g0 v) (g1 v)

/-- The odd lanes. -/
def odd (v : IVec S8x256 32) : IVec S8x128 32 :=
  dynamicRotate 1 64#32 none (select k0_pay2 (g1 v) (g0 v)) rotates_S8x128_d1

/-- The even lanes one further, and the padding behind the last. -/
def even1 (pad : IVec S8x128 32) (v : IVec S8x256 32) : IVec S8x128 32 :=
  select (cmpi .eq (iota .tc S8x128 32 [1] iota_S8x128_d1_w32) (broadcast S8x128 127#32)) pad
    (dynamicRotate 1 127#32 none (even v) rotates_S8x128_d1)

/-- The mask of the first 64 lanes. -/
theorem pay2_apply (r : Fin 8) (l : Fin 128) : k0_pay2 (ix2 r l) = BitVec.ofBool (decide (l.val < 64)) := by
  unfold k0_pay2
  pointwise
  revert l
  decide +kernel

/-- The first order at a lane. -/
theorem wrap3 (r : Fin 8) (l : Fin 128) :
    (wrap k0_pay3 (ix2 r l)).toNat % 128 = if l.val < 64 then 2 * l.val else 2 * (l.val - 64) + 1 := by
  unfold wrap k0_pay3 k0_pay2
  pointwise
  revert l
  decide +kernel

/-- The second order at a lane. -/
theorem wrap4 (r : Fin 8) (l : Fin 128) :
    (wrap k0_pay4 (ix2 r l)).toNat % 128 = if l.val < 64 then 2 * l.val + 1 else 2 * (l.val - 64) := by
  unfold wrap k0_pay4 k0_pay2
  pointwise
  revert l
  decide +kernel

/-- The gather from the low 128 lanes: lane `l` below 64 reads an even place, above it an odd one. -/
theorem g0_apply (v : IVec S8x256 32) (r : Fin 8) (l : Fin 128) (m : Fin 256)
    (hm : m.val = if l.val < 64 then 2 * l.val else 2 * (l.val - 64) + 1) : g0 v (ix2 r l) = v (ix2 r m) := by
  unfold g0
  rw [dynamicGather_apply]
  refine (extractStridedSlice_apply _ _ _ _ (ix2 r m) ?_)
  intro a
  match a with
  | ⟨0, _⟩ => simp [ix2]
  | ⟨1, _⟩ => simpa [ix2] using hm.trans (wrap3 r l).symm

/-- The gather from the high 128 lanes: lane `l` below 64 reads an odd place, above it an even one. -/
theorem g1_apply (v : IVec S8x256 32) (r : Fin 8) (l : Fin 128) (m : Fin 256)
    (hm : m.val = 128 + if l.val < 64 then 2 * l.val + 1 else 2 * (l.val - 64)) : g1 v (ix2 r l) = v (ix2 r m) := by
  unfold g1
  rw [dynamicGather_apply]
  refine (extractStridedSlice_apply _ _ _ _ (ix2 r m) ?_)
  intro a
  match a with
  | ⟨0, _⟩ => simp [ix2]
  | ⟨1, _⟩ => simpa [ix2] using hm.trans (congrArg (128 + ·) (wrap4 r l).symm)

/-- A choice by a mask that is a proposition's truth value. -/
theorem select_ofBool {s : Shape} {α : Type} (m : IVec s 1) (a b : s.Idx → α) (j : s.Idx) (p : Prop) [Decidable p]
    (hm : m j = BitVec.ofBool (decide p)) : select m a b j = if p then a j else b j := by
  unfold select
  rw [hm]
  by_cases h : p
  · rw [if_pos h, decide_eq_true h]; rfl
  · rw [if_neg h, decide_eq_false h]; rfl

/-- Lane `l` of the even lanes is lane `2l`. -/
theorem even_apply (v : IVec S8x256 32) (r : Fin 8) (l : Fin 128) (m : Fin 256) (hm : m.val = 2 * l.val) :
    even v (ix2 r l) = v (ix2 r m) := by
  unfold even
  rw [select_ofBool _ _ _ _ _ (pay2_apply r l)]
  have hl := l.isLt
  split
  · exact g0_apply v r l m (by rw [if_pos ‹_›]; exact hm)
  · exact g1_apply v r l m (by rw [if_neg ‹_›]; omega)

/-- Lane `l` of the odd lanes is lane `2l + 1`. -/
theorem odd_apply (v : IVec S8x256 32) (r : Fin 8) (l : Fin 128) (m : Fin 256) (hm : m.val = 2 * l.val + 1) :
    odd v (ix2 r l) = v (ix2 r m) := by
  unfold odd
  have hl := l.isLt
  rw [dynamicRotate_apply (1 : Fin 2) 64#32 _ _ (ix2 r l) (ix2 r (⟨(l.val + 64) % 128, Nat.mod_lt _ (by decide)⟩ : Fin 128)) (by
    intro b
    match b with
    | ⟨0, _⟩ => rfl
    | ⟨1, _⟩ => show (l.val + 64) % 128 = (l.val + 128 - 64 % 128) % 128; omega)]
  rw [select_ofBool _ _ _ _ _ (pay2_apply r _)]
  split
  · rename_i h
    exact g1_apply v r _ m (by rw [if_pos h]; simp only at h ⊢; omega)
  · rename_i h
    exact g0_apply v r _ m (by rw [if_neg h]; simp only at h ⊢; omega)

/-- The last lane of the shifted even lanes is the padding. -/
theorem even1_last (pad : IVec S8x128 32) (v : IVec S8x256 32) (r : Fin 8) (l : Fin 128) (hl : l.val = 127) :
    even1 pad v (ix2 r l) = pad (ix2 r l) := by
  unfold even1
  rw [select_ofBool _ _ _ _ (l.val = 127) (by pointwise; revert l; decide +kernel), if_pos hl]

/-- Lane `l` of the shifted even lanes is lane `2l + 2`. -/
theorem even1_apply (pad : IVec S8x128 32) (v : IVec S8x256 32) (r : Fin 8) (l : Fin 128) (hl : l.val ≠ 127)
    (m : Fin 256) (hm : m.val = 2 * l.val + 2) : even1 pad v (ix2 r l) = v (ix2 r m) := by
  unfold even1
  rw [select_ofBool _ _ _ _ (l.val = 127) (by pointwise; clear hl hm; revert l; decide +kernel), if_neg hl]
  have hl' := l.isLt
  rw [dynamicRotate_apply (1 : Fin 2) 127#32 _ _ (ix2 r l) (ix2 r (⟨(l.val + 1) % 128, Nat.mod_lt _ (by decide)⟩ : Fin 128)) (by
    intro b
    match b with
    | ⟨0, _⟩ => rfl
    | ⟨1, _⟩ => show (l.val + 1) % 128 = (l.val + 128 - 127 % 128) % 128; omega)]
  exact even_apply v r _ m (by simp only; omega)

/-- The words of a column read as bytes again: where a word stands at lane `m` of the bytes `x` read as words, its bytes
    are those of `x`. -/
theorem bytes_apply (x : IVec S32x256 8) (W : IVec S8x256 32) (c : Fin 32) (n m : Fin 256)
    (hW : W (ix2 (⟨c.val / 4, by omega⟩ : Fin 8) n)
      = bitcast S8x256 32 x bitcasts_S32x256_w8_S8x256_w32 (ix2 (⟨c.val / 4, by omega⟩ : Fin 8) m)) :
    bitcast S32x256 8 W bitcasts_S8x256_w32_S32x256_w8 (ix2 c n) = x (ix2 c m) := by
  apply BitVec.eq_of_getLsbD_eq
  intro q hq
  rw [bitcast_getLsbD W bitcasts_S8x256_w32_S32x256_w8 (ix2 c n) q hq (by decide)]
  have hrow : S32x256.row (ix2 c n) = c.val := rfl
  have hsrc : ∀ hp, bitcasts_S8x256_w32_S32x256_w8.srcIdx (ix2 c n) ((S32x256.row (ix2 c n) * 8 + q) / 32) hp
      = ix2 (⟨c.val / 4, by omega⟩ : Fin 8) n := by
    intro hp
    funext a
    match a with
    | ⟨0, _⟩ =>
      refine Fin.ext ((Shape.Bitcasts.srcIdx_row _ _ _ _ ⟨0, Nat.zero_lt_two⟩ rfl).trans ?_)
      show (c.val * 8 + q) / 32 = c.val / 4
      omega
    | ⟨1, _⟩ => exact Fin.ext (Shape.Bitcasts.srcIdx_other _ _ _ _ ⟨1, Nat.one_lt_two⟩ (by show ¬ 1 + 2 = 2; omega))
  rw [hsrc, hW, hrow]
  have hb := bitcast_8_32_getLsbD_ix2 x bitcasts_S32x256_w8_S8x256_w32 (⟨c.val / 4, by omega⟩ : Fin 8) m ((c.val * 8 + q) % 32)
    (Nat.mod_lt _ (by decide)) c (by show c.val = 4 * (c.val / 4) + (c.val * 8 + q) % 32 / 8; omega)
  have e : (c.val * 8 + q) % 32 % 8 = q := by omega
  rw [e] at hb
  exact hb

/-- The four bytes of the padding word are the low byte of the zero point. -/
theorem pad_bits (z : BitVec 32) (k q : ℕ) (hk : k < 4) (hq : q < 8) :
    (Scalar.muli (Scalar.andi z 255#32) 16843009#32).getLsbD (8 * k + q) = (z.setWidth 8).getLsbD q := by
  have h1 : Scalar.andi z 255#32 = (z.setWidth 8).setWidth 32 := by
    apply BitVec.eq_of_toNat_eq
    show (z &&& 255#32).toNat = _
    rw [BitVec.toNat_and, BitVec.toNat_setWidth, BitVec.toNat_setWidth]
    have h : z.toNat &&& 255 = z.toNat % 2 ^ 8 := Nat.and_two_pow_sub_one_eq_mod _ 8
    refine h.trans (Nat.mod_eq_of_lt ?_).symm
    omega
  have h2 : ∀ b : BitVec 8, ∀ k : Fin 4, (b.setWidth 32 * 16843009#32).extractLsb' (8 * k.val) 8 = b := by decide +kernel
  rw [h1]
  have := congrArg (fun t => t.getLsbD q) (h2 (z.setWidth 8) ⟨k, hk⟩)
  simp only [BitVec.getLsbD_extractLsb', hq, decide_true, Bool.true_and] at this
  exact this

/-- Where a word is the padding word, its bytes are the low byte of the zero point. -/
theorem bytes_pad (z : BitVec 32) (W : IVec S8x256 32) (c : Fin 32) (n : Fin 256)
    (hW : W (ix2 (⟨c.val / 4, by omega⟩ : Fin 8) n) = Scalar.muli (Scalar.andi z 255#32) 16843009#32) :
    bitcast S32x256 8 W bitcasts_S8x256_w32_S32x256_w8 (ix2 c n) = z.setWidth 8 := by
  apply BitVec.eq_of_getLsbD_eq
  intro q hq
  rw [bitcast_getLsbD W bitcasts_S8x256_w32_S32x256_w8 (ix2 c n) q hq (by decide)]
  have hrow : S32x256.row (ix2 c n) = c.val := rfl
  have hsrc : ∀ hp, bitcasts_S8x256_w32_S32x256_w8.srcIdx (ix2 c n) ((S32x256.row (ix2 c n) * 8 + q) / 32) hp
      = ix2 (⟨c.val / 4, by omega⟩ : Fin 8) n := by
    intro hp
    funext a
    match a with
    | ⟨0, _⟩ =>
      refine Fin.ext ((Shape.Bitcasts.srcIdx_row _ _ _ _ ⟨0, Nat.zero_lt_two⟩ rfl).trans ?_)
      show (c.val * 8 + q) / 32 = c.val / 4
      omega
    | ⟨1, _⟩ => exact Fin.ext (Shape.Bitcasts.srcIdx_other _ _ _ _ ⟨1, Nat.one_lt_two⟩ (by show ¬ 1 + 2 = 2; omega))
  rw [hsrc, hW, hrow, show (c.val * 8 + q) % 32 = 8 * (c.val % 4) + q by omega]
  exact pad_bits z (c.val % 4) q (Nat.mod_lt _ (by decide)) hq

end Cert.Dw

end
-- ==== Proof.Trip.lean ====
/- One trip of the kernel's loop: the nine taps it lays over one another, and what it stores. -/
module

public import proofs.«01_k».proof.Proof.Taps
public import proofs.«01_k».proof.Proof.Gen.KernelIdeal.Loops
public import Idealize.ShloMosaic.Lib.Pipeline.Value
public import Idealize.ShloMosaic.Lib.WholeRead

@[expose] public section

set_option maxRecDepth 16384

noncomputable section

namespace Cert.Dw

open Cert.KernelIdeal Cert.KernelIdeal.Gen Idealize.ShloMosaic Idealize.ShloMosaic.TcCoe

/-! ## The nine taps -/

/-- Nine blocks of 32 rows, one under the other. -/
def cat9 (p : Fin 9 → FVec Ideal S32x256 .bf16) : FVec Ideal S288x256 .bf16 :=
  concatenate S288x256 0 [⟨S32x256, p 0⟩, ⟨S32x256, p 1⟩, ⟨S32x256, p 2⟩, ⟨S32x256, p 3⟩, ⟨S32x256, p 4⟩, ⟨S32x256, p 5⟩,
    ⟨S32x256, p 6⟩, ⟨S32x256, p 7⟩, ⟨S32x256, p 8⟩]
    concatenates_S32x256_S32x256_S32x256_S32x256_S32x256_S32x256_S32x256_S32x256_S32x256_S288x256_d0

/-- Row `32 t + c` is row `c` of block `t`. -/
theorem cat9_apply (p : Fin 9 → FVec Ideal S32x256 .bf16) (t : Fin 9) (c : Fin 32) (n : Fin 256) (r : Fin 288)
    (hr : r.val = 32 * t.val + c.val) : cat9 p (ix2 r n) = p t (ix2 c n) := by
  unfold cat9
  refine concatenate_apply_piece (t := S288x256) (0 : Fin 2) [⟨S32x256, p 0⟩, ⟨S32x256, p 1⟩, ⟨S32x256, p 2⟩, ⟨S32x256, p 3⟩,
    ⟨S32x256, p 4⟩, ⟨S32x256, p 5⟩, ⟨S32x256, p 6⟩, ⟨S32x256, p 7⟩, ⟨S32x256, p 8⟩] _ _ t.val t.isLt S32x256 (p t) ?_ rfl
    (32 * t.val) ?_ (ix2 c n) ?_ ?_
  · match t with
    | 0 | 1 | 2 | 3 | 4 | 5 | 6 | 7 | 8 => rfl
  · clear hr
    match t with
    | 0 | 1 | 2 | 3 | 4 | 5 | 6 | 7 | 8 => rfl
  · intro b hb
    match b with
    | ⟨0, _⟩ => exact absurd rfl hb
    | ⟨1, _⟩ => rfl
  · exact hr.symm

/-- Two half columns of words side by side, read as bytes and turned into numbers. -/
def piece (a b : IVec S8x128 32) : FVec Ideal S32x256 .bf16 :=
  sitofp .bf16 (bitcast S32x256 8 (concatenate S8x256 1 [⟨S8x128, a⟩, ⟨S8x128, b⟩] concatenates_S8x128_S8x128_S8x256_d1)
    bitcasts_S8x256_w32_S32x256_w8)

/-- The words `a` hold the bytes `f`: each word is one of a column of bytes read as words, or the padding word. -/
def Holds (a : IVec S8x128 32) (f : Fin 32 → Fin 128 → BitVec 8) : Prop :=
  ∀ (r : Fin 8) (l : Fin 128),
    (∃ (x : IVec S32x256 8) (m : Fin 256), a (ix2 r l) = bitcast S8x256 32 x bitcasts_S32x256_w8_S8x256_w32 (ix2 r m) ∧
      ∀ c : Fin 32, c.val / 4 = r.val → f c l = x (ix2 c m)) ∨
    ∃ z : BitVec 32, a (ix2 r l) = Scalar.muli (Scalar.andi z 255#32) 16843009#32 ∧
      ∀ c : Fin 32, c.val / 4 = r.val → f c l = z.setWidth 8

/-- The bytes of words lying at some place of a wider array. -/
theorem bytes_of_holds (a : IVec S8x128 32) (f : Fin 32 → Fin 128 → BitVec 8) (h : Holds a f) (W : IVec S8x256 32) (c : Fin 32)
    (l : Fin 128) (n : Fin 256) (hW : W (ix2 (⟨c.val / 4, by omega⟩ : Fin 8) n) = a (ix2 (⟨c.val / 4, by omega⟩ : Fin 8) l)) :
    bitcast S32x256 8 W bitcasts_S8x256_w32_S32x256_w8 (ix2 c n) = f c l := by
  rcases h ⟨c.val / 4, by omega⟩ l with ⟨x, m, hx, hf⟩ | ⟨z, hz, hf⟩
  · rw [bytes_apply x W c n m (hW.trans hx), hf c rfl]
  · rw [bytes_pad z W c n (hW.trans hz), hf c rfl]

/-- The left half of a block. -/
theorem piece_left (a b : IVec S8x128 32) (f : Fin 32 → Fin 128 → BitVec 8) (ha : Holds a f) (c : Fin 32) (l : Fin 128) (n : Fin 256)
    (hn : n.val = l.val) : piece a b (ix2 c n) = (((f c l).toInt : ℝ) : EReal) := by
  have h := bytes_of_holds a f ha (concatenate S8x256 1 [⟨S8x128, a⟩, ⟨S8x128, b⟩] concatenates_S8x128_S8x128_S8x256_d1) c l n
    (concatenate_pair_apply_left (t := S8x256) (1 : Fin 2) a b _ _ rfl _ (by
      intro k
      match k with
      | ⟨0, _⟩ => rfl
      | ⟨1, _⟩ => exact hn.symm))
  unfold piece
  show ((((bitcast S32x256 8 _ _ (ix2 c n) : BitVec 8).toInt : ℝ)) : EReal) = _
  rw [h]

/-- The right half of a block. -/
theorem piece_right (a b : IVec S8x128 32) (f : Fin 32 → Fin 128 → BitVec 8) (hb : Holds b f) (c : Fin 32) (l : Fin 128) (n : Fin 256)
    (hn : n.val = 128 + l.val) : piece a b (ix2 c n) = (((f c l).toInt : ℝ) : EReal) := by
  have h := bytes_of_holds b f hb (concatenate S8x256 1 [⟨S8x128, a⟩, ⟨S8x128, b⟩] concatenates_S8x128_S8x128_S8x256_d1) c l n
    (concatenate_pair_apply_right (t := S8x256) (1 : Fin 2) a b _ _ rfl rfl _ (by
      intro k hk
      match k with
      | ⟨0, _⟩ => rfl
      | ⟨1, _⟩ => exact absurd rfl hk) (by show l.val + 128 = n.val; omega))
  unfold piece
  show ((((bitcast S32x256 8 _ _ (ix2 c n) : BitVec 8).toInt : ℝ)) : EReal) = _
  rw [h]

/-- A column's byte in row `h`, and the low byte of the zero point below the column. -/
def rowByte (z : BitVec 32) (x : IVec S32x256 8) (c : Fin 32) (h : ℕ) : BitVec 8 :=
  if hh : h < 256 then x (ix2 c ⟨h, hh⟩) else z.setWidth 8

/-- The even lanes hold the rows `2 l`. -/
theorem holds_even (z : BitVec 32) (x : IVec S32x256 8) :
    Holds (even (bitcast S8x256 32 x bitcasts_S32x256_w8_S8x256_w32)) fun c l => rowByte z x c (2 * l.val) := by
  intro r l
  have hl := l.isLt
  refine Or.inl ⟨x, ⟨2 * l.val, by omega⟩, even_apply _ r l _ rfl, fun c _ => ?_⟩
  exact dif_pos (by omega)

/-- The odd lanes hold the rows `2 l + 1`. -/
theorem holds_odd (z : BitVec 32) (x : IVec S32x256 8) :
    Holds (odd (bitcast S8x256 32 x bitcasts_S32x256_w8_S8x256_w32)) fun c l => rowByte z x c (2 * l.val + 1) := by
  intro r l
  have hl := l.isLt
  refine Or.inl ⟨x, ⟨2 * l.val + 1, by omega⟩, odd_apply _ r l _ rfl, fun c _ => ?_⟩
  exact dif_pos (by omega)

/-- The shifted even lanes hold the rows `2 l + 2`, the padding behind the last. -/
theorem holds_even1 (z : BitVec 32) (x : IVec S32x256 8) :
    Holds (even1 (k0_pay5 (F := Ideal) z) (bitcast S8x256 32 x bitcasts_S32x256_w8_S8x256_w32)) fun c l => rowByte z x c (2 * l.val + 2) := by
  intro r l
  have hl := l.isLt
  by_cases h : l.val = 127
  · refine Or.inr ⟨z, (even1_last _ _ r l h).trans rfl, fun c _ => ?_⟩
    exact dif_neg (by omega)
  · refine Or.inl ⟨x, ⟨2 * l.val + 2, by omega⟩, even1_apply _ _ r l h _ rfl, fun c _ => ?_⟩
    exact dif_pos (by omega)

/-- The padding words hold the low byte of the zero point. -/
theorem holds_pad (z : BitVec 32) : Holds (k0_pay5 (F := Ideal) z) fun _ _ => z.setWidth 8 :=
  fun _ _ => Or.inr ⟨z, rfl, fun _ _ => rfl⟩

/-- The nine blocks of a trip: for each row offset the three columns of either half, the last column of the right half
    padded where it lies outside the image. -/
def patch (pad : IVec S8x128 32) (inside : BitVec 1) (a0 a1 a2 b0 b1 b2 : IVec S8x256 32) : Fin 9 → FVec Ideal S32x256 .bf16 :=
  ![piece (even a0) (even b0), piece (even a1) (even b1), piece (Scalar.select 1#1 (even a2) pad) (Scalar.select inside (even b2) pad),
    piece (odd a0) (odd b0), piece (odd a1) (odd b1), piece (Scalar.select 1#1 (odd a2) pad) (Scalar.select inside (odd b2) pad),
    piece (even1 pad a0) (even1 pad b0), piece (even1 pad a1) (even1 pad b1),
    piece (Scalar.select 1#1 (even1 pad a2) pad) (Scalar.select inside (even1 pad b2) pad)]

/-- A column of the image block, as loaded at the offsets `off`. -/
def col (arg3 : Memref sig .tc .vmem S1x448x32x256 .i8) (X : BufTy.Contents (Elt Ideal) arg3.view.ty) (off : Fin 4 → ℕ)
    (inb : ∀ a, off a + S1x1x32x256.size a ≤ S1x448x32x256.size a) : IVec S32x256 8 :=
  shapeCast S32x256 (arg3.view.readAt (Elt Ideal) (Rect.unit (s := S1x448x32x256) off S1x1x32x256.size inb).toLoadRect X : Vec Ideal S1x1x32x256 .i8)
    shapeCasts_S1x1x32x256_S32x256

/-- The words of a column. -/
def words (x : IVec S32x256 8) : IVec S8x256 32 := bitcast S8x256 32 x bitcasts_S32x256_w8_S8x256_w32

set_option maxHeartbeats 1000000 in
/-- The trip's right operand is the nine blocks of its six columns. -/
theorem trip_r (arg3 : Memref sig .tc .vmem S1x448x32x256 .i8) (X : BufTy.Contents (Elt Ideal) arg3.view.ty) (v0 : Elt Ideal .i32)
    (k : Fin k0_t1_loop.trips) :
    trip_k0_t1.sl.r (F := Ideal) arg3 v0 (iota .tc S8x128 32 [1] iota_S8x128_d1_w32) X k
      = cat9 (patch (k0_pay5 v0) (trip_k0_t1.sl.v189 k) (words (trip_k0_t1.sl.v33 arg3 X k)) (words (trip_k0_t1.sl.v64 arg3 X k))
          (words (trip_k0_t1.sl.v97 arg3 X k)) (words (trip_k0_t1.sl.v131 arg3 X k)) (words (trip_k0_t1.sl.v162 arg3 X k))
          (words (trip_k0_t1.sl.v195 arg3 X k))) := rfl

/-! ## The requantisation -/

/-- The requantisation of one accumulator by a multiplier and a shift to the right. -/
def rq (zo acc mult e : BitVec 32) : BitVec 8 :=
  let ah := IntOp.shrsi .vector acc 16#32
  let al := IntOp.andi acc 65535#32
  let mh := IntOp.shrsi .vector mult 16#32
  let ml := IntOp.andi mult 65535#32
  let c16 := IntOp.addi (IntOp.addi (IntOp.addi (IntOp.andi (IntOp.muli al mh) 65535#32) (IntOp.andi (IntOp.muli ah ml) 65535#32))
    (IntOp.shrui .vector (IntOp.muli al ml) 16#32)) 16384#32
  let h := IntOp.addi (IntOp.addi (IntOp.muli ah mh) (IntOp.shrsi .vector (IntOp.muli al mh) 16#32))
    (IntOp.shrsi .vector (IntOp.muli ah ml) 16#32)
  let q := IntOp.addi (IntOp.muli 2#32 h) (IntOp.shrsi .vector c16 15#32)
  let mask := IntOp.subi (IntOp.shli .vector 1#32 e) 1#32
  let rem := IntOp.andi q mask
  let thr := IntOp.addi (IntOp.shrsi .vector mask 1#32) (Scalar.select (IntOp.cmpi .slt q 0#32) 1#32 0#32)
  let r := IntOp.addi (IntOp.shrsi .vector q e) (Scalar.select (IntOp.cmpi .sgt rem thr) 1#32 0#32)
  (IntOp.minsi 127#32 (IntOp.maxsi 4294967168#32 (IntOp.addi r zo))).setWidth 8

/-- What a trip stores for one half: the requantised accumulators. -/
def stored (zo : BitVec 32) (acc p0 p1 p2 : IVec S32x128 32) : IVec S1x1x32x128 8 :=
  shapeCast S1x1x32x128 (fun j => rq zo (IntOp.addi (acc j) (p0 j)) (p1 j) (p2 j) : IVec S32x128 8) shapeCasts_S32x128_S1x1x32x128

/-- A slab of the parameters. -/
def slab (arg8 : Memref sig .tc .vmem S3x32x128 .i32) (X : BufTy.Contents (Elt Ideal) arg8.view.ty) (off : Fin 3 → ℕ)
    (inb : ∀ a, off a + S1x32x128.size a ≤ S3x32x128.size a) : IVec S32x128 32 :=
  shapeCast S32x128 (arg8.view.readAt (Elt Ideal) (Rect.unit (s := S3x32x128) off S1x32x128.size inb).toLoadRect X : Vec Ideal S1x32x128 .i32)
    shapeCasts_S1x32x128_S32x128

/-- The accumulators of a trip. -/
def accs (arg3 : Memref sig .tc .vmem S1x448x32x256 .i8) (arg7 : Memref sig .tc .vmem S32x288 .bf16)
    (v0 : BitVec 32) (X3 : BufTy.Contents (Elt Ideal) arg3.view.ty) (X7 : BufTy.Contents (Elt Ideal) arg7.view.ty)
    (k : Fin k0_t1_loop.trips) : IVec S32x256 32 :=
  k0_pay65 (cat9 (patch (k0_pay5 (F := Ideal) v0) (trip_k0_t1.sl.v189 k) (words (col arg3 X3 _ (k0_off1_inb k)))
      (words (col arg3 X3 _ (k0_off2_inb k))) (words (col arg3 X3 _ (k0_off3_inb k))) (words (col arg3 X3 _ (k0_off4_inb k)))
      (words (col arg3 X3 _ (k0_off5_inb k))) (words (col arg3 X3 _ (k0_off6_inb k)))))
    (arg7.view.readAt (Elt Ideal) (Rect.unit (s := S32x288) ![0, 0] S32x288.size inb_S32x288_S32x288_0_0).toLoadRect X7)

set_option maxHeartbeats 2000000 in
/-- What one trip stores: column `k + 112` of the output, and before it column `k`. -/
theorem trip_pieces (c : Dev nD) (i : grid0.Coords) (arg1 : Memref sig .tc .smem S1 .i32) (harg1 : arg1.IsWhole)
    (arg2 : Memref sig .tc .smem S1 .i32) (harg2 : arg2.IsWhole) (arg3 : Memref sig .tc .vmem S1x448x32x256 .i8) (harg3 : arg3.IsWhole)
    (arg4 : Memref sig .tc .vmem S1x3x3x32 .i8) (harg4 : arg4.IsWhole) (arg5 : Memref sig .tc .vmem S3x32 .i32) (harg5 : arg5.IsWhole)
    (arg6 : Memref sig .tc .vmem S1x224x32x128 .i8) (harg6 : arg6.IsWhole) (arg7 : Memref sig .tc .vmem S32x288 .bf16) (harg7 : arg7.IsWhole)
    (arg8 : Memref sig .tc .vmem S3x32x128 .i32) (harg8 : arg8.IsWhole) (v0 v1 : Elt Ideal .i32)
    (X3 : BufTy.Contents (Elt Ideal) arg3.view.ty) (X7 : BufTy.Contents (Elt Ideal) arg7.view.ty)
    (X8 : BufTy.Contents (Elt Ideal) arg8.view.ty) (k : Fin k0_t1_loop.trips) :
    tripL_k0_t1 (F := Ideal) Variants.none c none i arg1 harg1 arg2 harg2 arg3 harg3 arg4 harg4 arg5 harg5 arg6 harg6 arg7 harg7 arg8 harg8
        v0 v1 (iota .tc S8x128 32 [1] iota_S8x128_d1_w32) X3 X7 X8 k
      = [⟨Rect.unit (s := S1x224x32x128) (k0_off7 k 112#32) S1x1x32x128.size (k0_off7_inb k 1),
          stored v1 (extractStridedSlice S32x128 ![0, 128] (accs arg3 arg7 v0 X3 X7 k) slices_S32x256_o0_128_S32x128)
            (slab arg8 X8 _ inb_S3x32x128_S1x32x128_0_0_0) (slab arg8 X8 _ inb_S3x32x128_S1x32x128_1_0_0)
            (slab arg8 X8 _ inb_S3x32x128_S1x32x128_2_0_0)⟩,
        ⟨Rect.unit (s := S1x224x32x128) (k0_off7 k 0#32) S1x1x32x128.size (k0_off7_inb k 0),
          stored v1 (extractStridedSlice S32x128 ![0, 0] (accs arg3 arg7 v0 X3 X7 k) slices_S32x256_o0_0_S32x128)
            (slab arg8 X8 _ inb_S3x32x128_S1x32x128_0_0_0) (slab arg8 X8 _ inb_S3x32x128_S1x32x128_1_0_0)
            (slab arg8 X8 _ inb_S3x32x128_S1x32x128_2_0_0)⟩] := by
  unfold tripL_k0_t1 trip_k0_t1
  dsimp only
  rfl

end Cert.Dw

end
-- ==== Proof.Dot.lean ====
/- The product of the diagonal weights with the nine taps, and the sum of the weights, are exact integer sums. -/
module

public import proofs.«01_k».proof.Proof.Trip
public import Idealize.ShloMosaic.Lib.MatmulPlain
public import Idealize.ShloMosaic.Lib.IdealHost

@[expose] public section

set_option maxRecDepth 16384

noncomputable section

namespace Cert.Dw

open Cert.KernelIdeal Cert.KernelIdeal.Gen Idealize.ShloMosaic Idealize.ShloMosaic.TcCoe

/-- A whole number within 32 bits, turned from an extended real into a word. -/
theorem fptosi_int (n : ℤ) (h0 : -2147483648 ≤ n) (h1 : n ≤ 2147483647) :
    Ideal.fptosi 32 ((n : ℝ) : EReal) = BitVec.ofInt 32 n := by
  rw [Ideal.fptosi, Ideal.toIntClamped_coe, Int.floor_intCast, Int.ceil_intCast, ite_self]
  congr 1
  norm_num
  omega

/-- A signed byte is at most 128 in magnitude. -/
theorem byte_abs (b : BitVec 8) : |b.toInt| ≤ 128 := by
  have h0 := BitVec.le_toInt b
  have h1 := BitVec.toInt_lt (x := b)
  rw [abs_le]
  omega

/-- Nine products of signed bytes stay far below 31 bits. -/
theorem sum9_bound (x w : Fin 9 → BitVec 8) :
    -2147483648 ≤ ∑ t, (x t).toInt * (w t).toInt ∧ ∑ t, (x t).toInt * (w t).toInt ≤ 2147483647 := by
  have h : |∑ t, (x t).toInt * (w t).toInt| ≤ 9 * 16384 := by
    refine (Finset.abs_sum_le_sum_abs _ _).trans ?_
    refine (Finset.sum_le_card_nsmul _ _ 16384 fun t _ => ?_).trans (by simp)
    rw [abs_mul]
    exact (mul_le_mul (byte_abs _) (byte_abs _) (abs_nonneg _) (by norm_num)).trans (by norm_num)
  rw [abs_le] at h
  omega

/-- A finite sum of whole numbers as an extended real. -/
theorem sum_coe {ι : Type} (s : Finset ι) (f : ι → ℤ) :
    ∑ i ∈ s, (((f i : ℤ) : ℝ) : EReal) = (((∑ i ∈ s, f i : ℤ) : ℝ) : EReal) := by
  classical
  induction s using Finset.induction_on with
  | empty => simp
  | insert a s ha ih => rw [Finset.sum_insert ha, Finset.sum_insert ha, ih, Int.cast_add, EReal.coe_add]

/-- A sum over 288 is a sum over nine blocks of 32. -/
theorem sum288 (f : Fin 288 → EReal) : ∑ k, f k = ∑ t : Fin 9, ∑ c : Fin 32, f ⟨32 * t.val + c.val, by omega⟩ := by
  have e := Equiv.sum_comp (finProdFinEquiv (m := 9) (n := 32)) (fun k : Fin (9 * 32) => f k)
  rw [Fintype.sum_prod_type] at e
  refine e.symm.trans (Finset.sum_congr rfl fun t _ => Finset.sum_congr rfl fun c _ => congrArg f (Fin.ext ?_))
  show c.val + 32 * t.val = 32 * t.val + c.val
  omega

/-- The product with the diagonal weights: the accumulator of channel `c` at place `n` is the sum of the nine products of
    its taps with its weights. -/
theorem pay65_apply (P : Fin 9 → FVec Ideal S32x256 .bf16) (A : FVec Ideal S32x288 .bf16) (c : Fin 32) (n : Fin 256)
    (x w : Fin 9 → BitVec 8)
    (hA : ∀ (t : Fin 9) (c' : Fin 32) (k : Fin 288), k.val = 32 * t.val + c'.val →
      A (ix2 c k) = if c = c' then (((w t).toInt : ℝ) : EReal) else 0)
    (hP : ∀ t : Fin 9, P t (ix2 c n) = (((x t).toInt : ℝ) : EReal)) :
    k0_pay65 (F := Ideal) (cat9 P) A (ix2 c n) = BitVec.ofInt 32 (∑ t, (x t).toInt * (w t).toInt) := by
  have e : k0_pay65 (F := Ideal) (cat9 P) A (ix2 c n)
      = Ideal.fptosi 32 (FloatOps.matmul (F := Ideal) (φ₁ := .bf16) (φ₂ := .bf16) (DotDims.plain 32 288 256) none A (cat9 P) (constant (F := Ideal) ⟨2, ![32, 256]⟩ .f32 0x00000000#32) (ValueIdx.ix2 c n)) := rfl
  rw [e, Ideal.matmul_plain_apply, sum288]
  have ez : constant (F := Ideal) ⟨2, ![32, 256]⟩ .f32 0x00000000#32 (ValueIdx.ix2 c n) = (0 : EReal) := Ideal.ofBits_zero_f32
  have es : ∀ t : Fin 9, ∑ c' : Fin 32, A (ValueIdx.ix2 c (⟨32 * t.val + c'.val, by omega⟩ : Fin 288))
        * cat9 P (ValueIdx.ix2 (⟨32 * t.val + c'.val, by omega⟩ : Fin 288) n)
      = ((((x t).toInt * (w t).toInt : ℤ) : ℝ) : EReal) := by
    intro t
    rw [Finset.sum_eq_single c]
    · have h1 : A (ValueIdx.ix2 c (⟨32 * t.val + c.val, by omega⟩ : Fin 288)) = (((w t).toInt : ℝ) : EReal) :=
        (hA t c _ rfl).trans (if_pos rfl)
      have h2 : cat9 P (ValueIdx.ix2 (⟨32 * t.val + c.val, by omega⟩ : Fin 288) n) = (((x t).toInt : ℝ) : EReal) :=
        (cat9_apply P t c n _ rfl).trans (hP t)
      rw [h1, h2, ← EReal.coe_mul, Int.cast_mul, mul_comm]
    · intro c' _ hc
      have h1 : A (ValueIdx.ix2 c (⟨32 * t.val + c'.val, by omega⟩ : Fin 288)) = 0 := (hA t c' _ rfl).trans (if_neg (Ne.symm hc))
      rw [h1, zero_mul]
    · intro h
      exact absurd (Finset.mem_univ c) h
  rw [ez, zero_add, Finset.sum_congr rfl fun t _ => es t, sum_coe]
  exact fptosi_int _ (sum9_bound x w).1 (sum9_bound x w).2

/-- A sign-extended product is the word of the product of whole numbers. -/
theorem ext_mul (a b : BitVec 8) : a.signExtend 32 * b.signExtend 32 = BitVec.ofInt 32 (a.toInt * b.toInt) := by
  rw [BitVec.ofInt_mul]; rfl

end Cert.Dw

end
-- ==== Proof.Weights.lean ====
/- What the first grid point stores for all of them: the weights of a channel on nine diagonals, and the channel's parameters. -/
module

public import proofs.«01_k».proof.Proof.Dot

@[expose] public section

set_option maxRecDepth 16384

noncomputable section

namespace Cert.Dw

open Cert.KernelIdeal Cert.KernelIdeal.Gen Idealize.ShloMosaic Idealize.ShloMosaic.TcCoe

/-- The nine weights of a channel, row by row. -/
def wgt (w : IVec S1x3x3x32 8) (c : Fin 32) (t : Fin 9) : BitVec 8 :=
  w (ix4 (0 : Fin 1) (⟨t.val / 3, by omega⟩ : Fin 3) (⟨t.val % 3, by omega⟩ : Fin 3) c)

/-- The weights as a `9 × 32` array of numbers. -/
theorem pay7_apply (w : IVec S1x3x3x32 8) (t : Fin 9) (c : Fin 32) :
    k0_pay7 (F := Ideal) w (ix2 t c) = (((wgt w c t).toInt : ℝ) : EReal) := by
  have e : k0_pay7 (F := Ideal) w (ix2 t c)
      = shapeCast S9x32 (sitofp (F := Ideal) .f32 (shapeCast S3x3x32 w shapeCasts_S1x3x3x32_S3x3x32)) shapeCasts_S3x3x32_S9x32 (ix2 t c) := rfl
  have e1 : shapeCast S3x3x32 w shapeCasts_S1x3x3x32_S3x3x32 (ix3 (⟨t.val / 3, by omega⟩ : Fin 3) (⟨t.val % 3, by omega⟩ : Fin 3) c)
      = wgt w c t := by
    refine shapeCast_apply _ _ _ _ ?_
    rw [Shape.rowMajor_val_four, Shape.rowMajor_val_three]
    simp [ix3, ix4]
  rw [e, shapeCast_apply _ _ _ (ix3 (⟨t.val / 3, by omega⟩ : Fin 3) (⟨t.val % 3, by omega⟩ : Fin 3) c) ?_]
  · show (((shapeCast S3x3x32 w shapeCasts_S1x3x3x32_S3x3x32 _ : BitVec 8).toInt : ℝ) : EReal) = _
    rw [e1]
  · rw [Shape.rowMajor_val_three, Shape.rowMajor_val_two]
    simp [ix3, ix2]
    omega

/-- A row of numbers on the diagonal of a square. -/
def diag (v : FVec Ideal S1x32 .f32) : FVec Ideal S32x32 .bf16 :=
  truncf .bf16 (select k0_pay8 (broadcastTo S32x32 (shapeCast S1x32 v shapeCasts_S1x32_S1x32) broadcasts_S1x32_S32x32)
    (broadcast S32x32 (Scalar.ofBits (F := Ideal) .f32 0x00000000#32))) bitsLt_bf16_f32

/-- The diagonal's mask. -/
theorem pay8_apply (c c' : Fin 32) : k0_pay8 (ix2 c c') = BitVec.ofBool (decide (c = c')) := by
  unfold k0_pay8
  pointwise
  revert c c'
  decide +kernel

/-- `diag` puts a row on the diagonal of a square of zeros. -/
theorem diag_apply (v : FVec Ideal S1x32 .f32) (c c' : Fin 32) :
    diag v (ix2 c c') = if c = c' then v (ix2 (0 : Fin 1) c') else 0 := by
  unfold diag
  show Scalar.select (k0_pay8 (ix2 c c')) (broadcastTo S32x32 (shapeCast S1x32 v shapeCasts_S1x32_S1x32) broadcasts_S1x32_S32x32 (ix2 c c'))
    (Ideal.ofBits .f32 0x00000000#32) = _
  rw [pay8_apply, Ideal.ofBits_zero_f32]
  by_cases h : c = c'
  · rw [if_pos h, decide_eq_true h]
    show broadcastTo S32x32 (shapeCast S1x32 v shapeCasts_S1x32_S1x32) broadcasts_S1x32_S32x32 (ix2 c c') = _
    pointwise
  · rw [if_neg h, decide_eq_false h]
    rfl

/-- The weights of all channels: nine squares side by side, each with one row of the weights on its diagonal. -/
def weights (w : IVec S1x3x3x32 8) : FVec Ideal S32x288 .bf16 := fun y =>
  if (y 0).val = (y 1).val % 32 then
    (((wgt w (⟨(y 1).val % 32, Nat.mod_lt _ (by omega)⟩ : Fin 32) (⟨(y 1).val / 32, by have := (y 1).isLt; change (y 1).val < 288 at this; omega⟩ : Fin 9)).toInt : ℝ) : EReal)
  else 0

/-- The weights at a place of square `t`. -/
theorem weights_apply (w : IVec S1x3x3x32 8) (t : Fin 9) (c c' : Fin 32) (k : Fin 288) (hk : k.val = 32 * t.val + c'.val) :
    weights w (ix2 c k) = if c = c' then (((wgt w c t).toInt : ℝ) : EReal) else 0 := by
  have h1 : (⟨k.val % 32, Nat.mod_lt _ (by omega)⟩ : Fin 32) = c' := Fin.ext (by show k.val % 32 = c'.val; omega)
  have h2 : (⟨k.val / 32, by omega⟩ : Fin 9) = t := Fin.ext (by show k.val / 32 = t.val; omega)
  show (if c.val = k.val % 32 then (((wgt w (⟨k.val % 32, _⟩ : Fin 32) (⟨k.val / 32, _⟩ : Fin 9)).toInt : ℝ) : EReal) else 0) = _
  rw [h1, h2]
  by_cases h : c = c'
  · rw [if_pos h, if_pos (by rw [h]; omega), h]
  · rw [if_neg h, if_neg fun hc => h (Fin.ext (by omega))]

/-- One square as stored agrees with the weights where it lies. -/
theorem square_apply (w : IVec S1x3x3x32 8) (t : Fin 9) (off : Fin 2 → ℕ) (h0 : off 0 = t.val) (h1 : off 1 = 0) (hs : S9x32.Slices off S1x32)
    (x : S32x32.Idx) (y : S32x288.Idx) (hy0 : (y 0).val = (x 0).val) (hy1 : (y 1).val = 32 * t.val + (x 1).val) :
    shapeCast S32x32 (diag (extractStridedSlice S1x32 off (k0_pay7 (F := Ideal) w) hs)) shapeCasts_S32x32_S32x32 x = weights w y := by
  rw [shapeCast_apply _ _ _ x rfl]
  idx_vars x
  idx_vars y
  obtain rfl : y0 = x0 := Fin.ext hy0
  have e : extractStridedSlice S1x32 off (k0_pay7 (F := Ideal) w) hs (ix2 (0 : Fin 1) x1) = (((wgt w x1 t).toInt : ℝ) : EReal) := by
    refine (extractStridedSlice_apply _ _ _ _ (ix2 t x1) ?_).trans (pay7_apply w t x1)
    intro a
    match a with
    | ⟨0, _⟩ => show t.val = off 0 + 0; omega
    | ⟨1, _⟩ => show x1.val = off 1 + x1.val; omega
  rw [weights_apply w t y0 x1 y1 hy1]
  refine (diag_apply _ y0 x1).trans ?_
  rw [e]
  by_cases h : y0 = x1
  · rw [if_pos h, if_pos h, h]
  · rw [if_neg h, if_neg h]

/-! ## The parameters of a channel -/

/-- The sum of a channel's weights. -/
theorem wsum_apply (w : IVec S1x3x3x32 8) (c : Fin 32) :
    Ideal.fptosi 32 (∑ t : Fin 9, k0_pay7 (F := Ideal) w (ix2 t c)) = BitVec.ofInt 32 (∑ t, (wgt w c t).toInt) := by
  rw [Finset.sum_congr rfl fun t _ => pay7_apply w t c, sum_coe]
  have h : |∑ t, (wgt w c t).toInt| ≤ 9 * 128 := by
    refine (Finset.abs_sum_le_sum_abs _ _).trans ?_
    exact (Finset.sum_le_card_nsmul _ _ 128 fun t _ => byte_abs _).trans (by simp)
  rw [abs_le] at h
  exact fptosi_int _ (by omega) (by omega)

/-- The parameters of a channel: the bias less the zero point times the sum of the weights, the multiplier, and the shift to
    the right. -/
def par (z : BitVec 32) (w : IVec S1x3x3x32 8) (p : IVec S3x32 32) (k : Fin 3) (c : Fin 32) : BitVec 32 :=
  ![IntOp.subi (p (ix2 (0 : Fin 3) c)) (IntOp.muli z (BitVec.ofInt 32 (∑ t, (wgt w c t).toInt))), p (ix2 (1 : Fin 3) c),
    IntOp.subi 0#32 (p (ix2 (2 : Fin 3) c))] k

/-- The table of parameters holds parameter `k` of channel `c` at row `c`, column `k`. -/
theorem pay21_apply (z : BitVec 32) (w : IVec S1x3x3x32 8) (p : IVec S3x32 32) (c : Fin 32) (k : Fin 3) (c' : Fin 128) (k' : Fin 8)
    (hc : c'.val = c.val) (hk : k'.val = k.val) :
    k0_pay21 (F := Ideal) z (k0_pay7 (F := Ideal) w) p (ix2 c' k') = par z w p k c := by
  rw [show c' = (⟨c.val, by omega⟩ : Fin 128) from Fin.ext hc, show k' = (⟨k.val, by omega⟩ : Fin 8) from Fin.ext hk]
  unfold k0_pay21
  pointwise
  match k with
  | 0 => exact congrArg (fun s => IntOp.subi (p (ix2 (0 : Fin 3) c)) (IntOp.muli z s)) (wsum_apply w c)
  | 1 => rfl
  | 2 => rfl

/-- The first stored parameter is the corrected bias, equal along the lanes. -/
theorem pay22_apply (z : BitVec 32) (w : IVec S1x3x3x32 8) (p : IVec S3x32 32) (c : Fin 32) (l : Fin 128) :
    k0_pay22 (F := Ideal) z (k0_pay7 (F := Ideal) w) p (ix3 (0 : Fin 1) c l) = par z w p 0 c := by
  unfold k0_pay22
  pointwise
  exact pay21_apply z w p c 0 _ _ rfl rfl

/-- The second stored parameter is the multiplier, equal along the lanes. -/
theorem pay23_apply (z : BitVec 32) (w : IVec S1x3x3x32 8) (p : IVec S3x32 32) (c : Fin 32) (l : Fin 128) :
    k0_pay23 (F := Ideal) z (k0_pay7 (F := Ideal) w) p (ix3 (0 : Fin 1) c l) = par z w p 1 c := by
  unfold k0_pay23
  pointwise
  exact pay21_apply z w p c 1 _ _ rfl rfl

/-- The third stored parameter is the negated shift, equal along the lanes. -/
theorem pay24_apply (z : BitVec 32) (w : IVec S1x3x3x32 8) (p : IVec S3x32 32) (c : Fin 32) (l : Fin 128) :
    k0_pay1 (k0_pay24 (F := Ideal) z (k0_pay7 (F := Ideal) w) p) (ix3 (0 : Fin 1) c l) = par z w p 2 c := by
  unfold k0_pay1 k0_pay24
  pointwise
  exact pay21_apply z w p c 2 _ _ rfl rfl

/-- The parameters of all channels, each a row of 128 equal words. -/
def params (z : BitVec 32) (w : IVec S1x3x3x32 8) (p : IVec S3x32 32) : IVec S3x32x128 32 :=
  fun y => par z w p (y 0) (y 1)

end Cert.Dw

end
-- ==== Proof.Loop.lean ====
/- What the kernel's loop leaves in the output block, element by element. -/
module

public import proofs.«01_k».proof.Proof.Weights

@[expose] public section

set_option maxRecDepth 16384

noncomputable section

namespace Cert.Dw

open Cert.KernelIdeal Cert.KernelIdeal.Gen Idealize.ShloMosaic Idealize.ShloMosaic.TcCoe

/-- A pixel of the image block by its column, row and channel: the low byte of the zero point outside. -/
def pix (z : BitVec 32) (x : IVec S1x448x32x256 8) (w h : ℕ) (c : Fin 32) : BitVec 8 :=
  if hwh : w < 448 ∧ h < 256 then x (ix4 (0 : Fin 1) (⟨w, hwh.1⟩ : Fin 448) c (⟨h, hwh.2⟩ : Fin 256)) else z.setWidth 8

/-- The nine pixels under the window of an output place, row by row. -/
def taps (z : BitVec 32) (x : IVec S1x448x32x256 8) (c : Fin 32) (wo ho : ℕ) (t : Fin 9) : BitVec 8 :=
  pix z x (2 * wo + t.val % 3) (2 * ho + t.val / 3) c

/-- The output block: the sum of the nine products, with the parameters of the channel, requantised. -/
def block (z zo : BitVec 32) (x : IVec S1x448x32x256 8) (w : IVec S1x3x3x32 8) (p : IVec S3x32 32) : IVec S1x224x32x128 8 := fun y =>
  rq zo (IntOp.addi (BitVec.ofInt 32 (∑ t, (taps z x (y 2) (y 1).val (y 3).val t).toInt * (wgt w (y 2) t).toInt)) (par z w p 0 (y 2)))
    (par z w p 1 (y 2)) (par z w p 2 (y 2))

/-- A byte of a loaded column is a pixel of the block. -/
theorem rowByte_col (arg3 : Memref sig .tc .vmem S1x448x32x256 .i8) (X : BufTy.Contents (Elt Ideal) arg3.view.ty)
    (x : IVec S1x448x32x256 8) (hX : arg3.view.read (Elt Ideal) X = x) (off : Fin 4 → ℕ)
    (inb : ∀ a, off a + S1x1x32x256.size a ≤ S1x448x32x256.size a) (z : BitVec 32) (wc : ℕ) (ho : off = ![0, wc, 0, 0]) (c : Fin 32) (h : ℕ) :
    rowByte z (col arg3 X off inb) c h = pix z x wc h c := by
  have hw : wc < 448 := by
    have := inb 1
    rw [ho] at this
    change wc + 1 ≤ 448 at this
    omega
  unfold rowByte pix
  by_cases hh : h < 256
  · rw [dif_pos hh, dif_pos ⟨hw, hh⟩]
    unfold col
    rw [shapeCast_apply _ _ _ (ix4 (0 : Fin 1) (0 : Fin 1) c (⟨h, hh⟩ : Fin 256))
      (by rw [Shape.rowMajor_val_four, Shape.rowMajor_val_two]; simp [ix4, ix2])]
    subst hX
    show arg3.view.read (Elt Ideal) X _ = arg3.view.read (Elt Ideal) X _
    congr 1
    subst ho
    idx_ext
    all_goals simp [LoadRect.idx_apply, ix4]
  · rw [dif_neg hh, dif_neg fun hc => hh hc.2]

/-- Whether the last column of the right half lies in the image. -/
theorem inside_eq (k : Fin k0_t1_loop.trips) : trip_k0_t1.sl.v189 k = BitVec.ofBool (decide (k.val < 111)) := by
  revert k
  decide +kernel

section Trip

variable (arg3 : Memref sig .tc .vmem S1x448x32x256 .i8) (X3 : BufTy.Contents (Elt Ideal) arg3.view.ty)
  (x : IVec S1x448x32x256 8) (hX3 : arg3.view.read (Elt Ideal) X3 = x) (z : BitVec 32) (k : Fin k0_t1_loop.trips)

/-- The nine blocks of trip `k`. -/
def blocks9 : Fin 9 → FVec Ideal S32x256 .bf16 :=
  patch (k0_pay5 (F := Ideal) z) (trip_k0_t1.sl.v189 k) (words (col arg3 X3 _ (k0_off1_inb k)))
      (words (col arg3 X3 _ (k0_off2_inb k))) (words (col arg3 X3 _ (k0_off3_inb k))) (words (col arg3 X3 _ (k0_off4_inb k)))
      (words (col arg3 X3 _ (k0_off5_inb k))) (words (col arg3 X3 _ (k0_off6_inb k)))

include hX3

/-- The left half holds the taps of output column `k`. -/
theorem blocks9_left (t : Fin 9) (c : Fin 32) (l : Fin 128) (n : Fin 256) (hn : n.val = l.val) :
    blocks9 arg3 X3 z k t (ix2 c n) = (((taps z x c k.val l.val t).toInt : ℝ) : EReal) := by
  have h1 := fun h => rowByte_col arg3 X3 x hX3 _ (k0_off1_inb k) z _ (k0_off1_eq k) c h
  have h2 := fun h => rowByte_col arg3 X3 x hX3 _ (k0_off2_inb k) z _ (k0_off2_eq k) c h
  have h3 := fun h => rowByte_col arg3 X3 x hX3 _ (k0_off3_inb k) z _ (k0_off3_eq k) c h
  unfold taps
  match t with
  | 0 => exact (piece_left _ _ _ (holds_even z _) c l n hn).trans (by rw [h1]; rfl)
  | 1 => exact (piece_left _ _ _ (holds_even z _) c l n hn).trans (by rw [h2]; rfl)
  | 2 => exact (piece_left _ _ _ (holds_even z _) c l n hn).trans (by rw [h3]; rfl)
  | 3 => exact (piece_left _ _ _ (holds_odd z _) c l n hn).trans (by rw [h1]; rfl)
  | 4 => exact (piece_left _ _ _ (holds_odd z _) c l n hn).trans (by rw [h2]; rfl)
  | 5 => exact (piece_left _ _ _ (holds_odd z _) c l n hn).trans (by rw [h3]; rfl)
  | 6 => exact (piece_left _ _ _ (holds_even1 z _) c l n hn).trans (by rw [h1]; rfl)
  | 7 => exact (piece_left _ _ _ (holds_even1 z _) c l n hn).trans (by rw [h2]; rfl)
  | 8 => exact (piece_left _ _ _ (holds_even1 z _) c l n hn).trans (by rw [h3]; rfl)

omit hX3 in
/-- Outside the image a pixel is the low byte of the zero point. -/
theorem pix_out (w h : ℕ) (c : Fin 32) (hw : 448 ≤ w) : pix z x w h c = z.setWidth 8 :=
  dif_neg fun hc => absurd hc.1 (by omega)

/-- The last column of the right half, padded where it lies outside the image. -/
theorem last_right (a b : IVec S8x128 32) (j : ℕ)
    (hb : Holds b fun c l => rowByte z (col arg3 X3 _ (k0_off6_inb k)) c (2 * l.val + j))
    (c : Fin 32) (l : Fin 128) (n : Fin 256) (hn : n.val = 128 + l.val) :
    piece a (Scalar.select (trip_k0_t1.sl.v189 k) b (k0_pay5 (F := Ideal) z)) (ix2 c n)
      = (((pix z x (2 * (k.val + 112) + 2) (2 * l.val + j) c).toInt : ℝ) : EReal) := by
  rw [inside_eq]
  by_cases hk : k.val < 111
  · rw [decide_eq_true hk]
    refine (piece_right _ _ _ hb c l n hn).trans ?_
    rw [rowByte_col arg3 X3 x hX3 _ (k0_off6_inb k) z _ (k0_off6_eq k) c,
      show min (2 * k.val + 226) 447 = 2 * (k.val + 112) + 2 by omega]
  · rw [decide_eq_false hk, pix_out _ _ _ _ _ (by omega)]
    exact piece_right _ _ _ (holds_pad z) c l n hn

/-- The right half holds the taps of output column `k + 112`. -/
theorem blocks9_right (t : Fin 9) (c : Fin 32) (l : Fin 128) (n : Fin 256) (hn : n.val = 128 + l.val) :
    blocks9 arg3 X3 z k t (ix2 c n) = (((taps z x c (k.val + 112) l.val t).toInt : ℝ) : EReal) := by
  have h1 := fun h => rowByte_col arg3 X3 x hX3 _ (k0_off4_inb k) z _ (k0_off4_eq k) c h
  have h2 := fun h => rowByte_col arg3 X3 x hX3 _ (k0_off5_inb k) z _ (k0_off5_eq k) c h
  unfold taps
  match t with
  | 0 => exact (piece_right _ _ _ (holds_even z _) c l n hn).trans (by rw [h1]; rfl)
  | 1 => exact (piece_right _ _ _ (holds_even z _) c l n hn).trans (by rw [h2]; rfl)
  | 2 => exact last_right arg3 X3 x hX3 z k _ _ 0 (holds_even z _) c l n hn
  | 3 => exact (piece_right _ _ _ (holds_odd z _) c l n hn).trans (by rw [h1]; rfl)
  | 4 => exact (piece_right _ _ _ (holds_odd z _) c l n hn).trans (by rw [h2]; rfl)
  | 5 => exact last_right arg3 X3 x hX3 z k _ _ 1 (holds_odd z _) c l n hn
  | 6 => exact (piece_right _ _ _ (holds_even1 z _) c l n hn).trans (by rw [h1]; rfl)
  | 7 => exact (piece_right _ _ _ (holds_even1 z _) c l n hn).trans (by rw [h2]; rfl)
  | 8 => exact last_right arg3 X3 x hX3 z k _ _ 2 (holds_even1 z _) c l n hn

variable (arg7 : Memref sig .tc .vmem S32x288 .bf16) (X7 : BufTy.Contents (Elt Ideal) arg7.view.ty) (w : IVec S1x3x3x32 8)
  (hX7 : arg7.view.read (Elt Ideal) X7 = weights w)

omit hX3 in
include hX7 in
/-- The weights as loaded. -/
theorem load_weights (t : Fin 9) (c c' : Fin 32) (i : Fin 288) (hi : i.val = 32 * t.val + c'.val) :
    (arg7.view.readAt (Elt Ideal) (Rect.unit (s := S32x288) ![0, 0] S32x288.size inb_S32x288_S32x288_0_0).toLoadRect X7
      : FVec Ideal S32x288 .bf16) (ix2 c i) = if c = c' then (((wgt w c t).toInt : ℝ) : EReal) else 0 := by
  rw [← weights_apply w t c c' i hi, ← hX7]
  show arg7.view.read (Elt Ideal) X7 _ = arg7.view.read (Elt Ideal) X7 _
  congr 1
  idx_ext
  all_goals simp [LoadRect.idx_apply, ix2]

include hX7

/-- The accumulators of the left half. -/
theorem accs_left (c : Fin 32) (l : Fin 128) (n : Fin 256) (hn : n.val = l.val) :
    accs arg3 arg7 z X3 X7 k (ix2 c n) = BitVec.ofInt 32 (∑ t, (taps z x c k.val l.val t).toInt * (wgt w c t).toInt) :=
  pay65_apply (blocks9 arg3 X3 z k) _ c n (taps z x c k.val l.val) (wgt w c)
    (load_weights arg7 X7 w hX7 · c) (blocks9_left arg3 X3 x hX3 z k · c l n hn)

/-- The accumulators of the right half. -/
theorem accs_right (c : Fin 32) (l : Fin 128) (n : Fin 256) (hn : n.val = 128 + l.val) :
    accs arg3 arg7 z X3 X7 k (ix2 c n) = BitVec.ofInt 32 (∑ t, (taps z x c (k.val + 112) l.val t).toInt * (wgt w c t).toInt) :=
  pay65_apply (blocks9 arg3 X3 z k) _ c n (taps z x c (k.val + 112) l.val) (wgt w c)
    (load_weights arg7 X7 w hX7 · c) (blocks9_right arg3 X3 x hX3 z k · c l n hn)

end Trip

/-- A slab of the parameters as loaded. -/
theorem slab_apply (arg8 : Memref sig .tc .vmem S3x32x128 .i32) (X8 : BufTy.Contents (Elt Ideal) arg8.view.ty) (z : BitVec 32)
    (w : IVec S1x3x3x32 8) (p : IVec S3x32 32) (hX8 : arg8.view.read (Elt Ideal) X8 = params z w p) (off : Fin 3 → ℕ)
    (inb : ∀ a, off a + S1x32x128.size a ≤ S3x32x128.size a) (q : Fin 3) (ho : off = ![q.val, 0, 0]) (c : Fin 32) (l : Fin 128) :
    slab arg8 X8 off inb (ix2 c l) = par z w p q c := by
  unfold slab
  rw [shapeCast_apply _ _ _ (ix3 (0 : Fin 1) c l) (by rw [Shape.rowMajor_val_three, Shape.rowMajor_val_two]; simp [ix3, ix2])]
  have e : par z w p q c = params z w p (ix3 q c l) := rfl
  rw [e, ← hX8]
  show arg8.view.read (Elt Ideal) X8 _ = arg8.view.read (Elt Ideal) X8 _
  congr 1
  subst ho
  idx_ext
  all_goals simp [LoadRect.idx_apply, ix3]

/-- What a half stores, at its place in the block. -/
theorem stored_apply (z zo : BitVec 32) (x : IVec S1x448x32x256 8) (w : IVec S1x3x3x32 8) (p : IVec S3x32 32) (acc p0 p1 p2 : IVec S32x128 32)
    (wo : ℕ) (j : S1x1x32x128.Idx) (y : S1x224x32x128.Idx) (hy1 : (y 1).val = wo) (hy2 : (y 2).val = (j 2).val)
    (hy3 : (y 3).val = (j 3).val)
    (hacc : ∀ (c : Fin 32) (l : Fin 128), acc (ix2 c l) = BitVec.ofInt 32 (∑ t, (taps z x c wo l.val t).toInt * (wgt w c t).toInt))
    (h0 : ∀ (c : Fin 32) (l : Fin 128), p0 (ix2 c l) = par z w p 0 c) (h1 : ∀ (c : Fin 32) (l : Fin 128), p1 (ix2 c l) = par z w p 1 c)
    (h2 : ∀ (c : Fin 32) (l : Fin 128), p2 (ix2 c l) = par z w p 2 c) :
    stored zo acc p0 p1 p2 j = block z zo x w p y := by
  have e2 : y 2 = j 2 := Fin.ext hy2
  have ej : (S32x128.rowMajor (ix2 (j 2) (j 3))).val = (S1x1x32x128.rowMajor j).val := by
    rw [Shape.rowMajor_val_two, Shape.rowMajor_val_four]
    have a0 : (j 0).val = 0 := by have := (j 0).isLt; change (j 0).val < 1 at this; omega
    have a1 : (j 1).val = 0 := by have := (j 1).isLt; change (j 1).val < 1 at this; omega
    simp [ix2, a0, a1]
  refine (shapeCast_apply (s := S32x128) (t := S1x1x32x128) _ _ j (ix2 (j 2) (j 3)) ej).trans ?_
  show rq zo (IntOp.addi (acc (ix2 (j 2) (j 3))) (p0 (ix2 (j 2) (j 3)))) (p1 (ix2 (j 2) (j 3))) (p2 (ix2 (j 2) (j 3))) = _
  unfold block
  rw [hacc (j 2) (j 3), h0 (j 2) (j 3), h1 (j 2) (j 3), h2 (j 2) (j 3), hy1, hy3, e2]

set_option maxHeartbeats 1000000 in
/-- All that the loop's first trips store agrees with the output block. -/
theorem pieces_agree (c : Dev nD) (i : grid0.Coords) (arg1 : Memref sig .tc .smem S1 .i32) (harg1 : arg1.IsWhole)
    (arg2 : Memref sig .tc .smem S1 .i32) (harg2 : arg2.IsWhole) (arg3 : Memref sig .tc .vmem S1x448x32x256 .i8) (harg3 : arg3.IsWhole)
    (arg4 : Memref sig .tc .vmem S1x3x3x32 .i8) (harg4 : arg4.IsWhole) (arg5 : Memref sig .tc .vmem S3x32 .i32) (harg5 : arg5.IsWhole)
    (arg6 : Memref sig .tc .vmem S1x224x32x128 .i8) (harg6 : arg6.IsWhole) (arg7 : Memref sig .tc .vmem S32x288 .bf16) (harg7 : arg7.IsWhole)
    (arg8 : Memref sig .tc .vmem S3x32x128 .i32) (harg8 : arg8.IsWhole) (v0 v1 : BitVec 32)
    (X3 : BufTy.Contents (Elt Ideal) arg3.view.ty) (X7 : BufTy.Contents (Elt Ideal) arg7.view.ty)
    (X8 : BufTy.Contents (Elt Ideal) arg8.view.ty) (x : IVec S1x448x32x256 8) (w : IVec S1x3x3x32 8) (p : IVec S3x32 32)
    (hX3 : arg3.view.read (Elt Ideal) X3 = x) (hX7 : arg7.view.read (Elt Ideal) X7 = weights w)
    (hX8 : arg8.view.read (Elt Ideal) X8 = params v0 w p) (n : ℕ) (hn : n ≤ k0_t1_loop.trips) :
    ∀ q ∈ pb_k0_t1 (F := Ideal) Variants.none c none i arg1 harg1 arg2 harg2 arg3 harg3 arg4 harg4 arg5 harg5 arg6 harg6 arg7 harg7 arg8 harg8
        v0 v1 (iota .tc S8x128 32 [1] iota_S8x128_d1_w32) X3 X7 X8 n,
      ∀ j : q.1.shape.Idx, q.2 j = block v0 v1 x w p (q.1.emb j) := by
  induction n with
  | zero => exact fun q hq => absurd hq List.not_mem_nil
  | succ n ih =>
    have e := pb_k0_t1_succ (F := Ideal) Variants.none c none i arg1 harg1 arg2 harg2 arg3 harg3 arg4 harg4 arg5 harg5 arg6 harg6 arg7 harg7
      arg8 harg8 v0 v1 (iota .tc S8x128 32 [1] iota_S8x128_d1_w32) X3 X7 X8 ⟨n, hn⟩
    rw [trip_pieces] at e
    intro q hq
    rw [e] at hq
    rcases List.mem_append.mp hq with hq | hq
    · have o0 := k0_off7_eq ⟨n, hn⟩ 0
      have o1 := k0_off7_eq ⟨n, hn⟩ 1
      rcases List.mem_cons.mp hq with rfl | hq
      · intro j
        refine stored_apply v0 v1 x w p _ _ _ _ (n + 112) j _ ?_ ?_ ?_ (fun c' l => ?_) (slab_apply arg8 X8 v0 w p hX8 _ _ 0 rfl)
          (slab_apply arg8 X8 v0 w p hX8 _ _ 1 rfl) (slab_apply arg8 X8 v0 w p hX8 _ _ 2 rfl)
        · have o : k0_off7 ⟨n, hn⟩ 112#32 1 = n + 112 * 1 := congrFun (k0_off7_eq ⟨n, hn⟩ 1) 1
          have a1 : (j 1).val = 0 := by have := (j 1).isLt; change (j 1).val < 1 at this; omega
          show k0_off7 ⟨n, hn⟩ 112#32 1 + 1 * (j 1).val = _
          omega
        · have o : k0_off7 ⟨n, hn⟩ 112#32 2 = 0 := congrFun (k0_off7_eq ⟨n, hn⟩ 1) 2
          show k0_off7 ⟨n, hn⟩ 112#32 2 + 1 * (j 2).val = (j 2).val
          omega
        · have o : k0_off7 ⟨n, hn⟩ 112#32 3 = 0 := congrFun (k0_off7_eq ⟨n, hn⟩ 1) 3
          show k0_off7 ⟨n, hn⟩ 112#32 3 + 1 * (j 3).val = (j 3).val
          omega
        · refine (extractStridedSlice_apply _ _ _ _ (ix2 c' (⟨128 + l.val, by omega⟩ : Fin 256)) ?_).trans
            (accs_right arg3 X3 x hX3 v0 ⟨n, hn⟩ arg7 X7 w hX7 c' l _ rfl)
          intro a
          match a with
          | ⟨0, _⟩ => show c'.val = 0 + c'.val; omega
          | ⟨1, _⟩ => rfl
      · rcases List.mem_cons.mp hq with rfl | hq
        · intro j
          refine stored_apply v0 v1 x w p _ _ _ _ n j _ ?_ ?_ ?_ (fun c' l => ?_) (slab_apply arg8 X8 v0 w p hX8 _ _ 0 rfl)
            (slab_apply arg8 X8 v0 w p hX8 _ _ 1 rfl) (slab_apply arg8 X8 v0 w p hX8 _ _ 2 rfl)
          · have o : k0_off7 ⟨n, hn⟩ 0#32 1 = n + 112 * 0 := congrFun (k0_off7_eq ⟨n, hn⟩ 0) 1
            have a1 : (j 1).val = 0 := by have := (j 1).isLt; change (j 1).val < 1 at this; omega
            show k0_off7 ⟨n, hn⟩ 0#32 1 + 1 * (j 1).val = _
            omega
          · have o : k0_off7 ⟨n, hn⟩ 0#32 2 = 0 := congrFun (k0_off7_eq ⟨n, hn⟩ 0) 2
            show k0_off7 ⟨n, hn⟩ 0#32 2 + 1 * (j 2).val = (j 2).val
            omega
          · have o : k0_off7 ⟨n, hn⟩ 0#32 3 = 0 := congrFun (k0_off7_eq ⟨n, hn⟩ 0) 3
            show k0_off7 ⟨n, hn⟩ 0#32 3 + 1 * (j 3).val = (j 3).val
            omega
          · refine (extractStridedSlice_apply _ _ _ _ (ix2 c' (⟨l.val, by omega⟩ : Fin 256)) ?_).trans
              (accs_left arg3 X3 x hX3 v0 ⟨n, hn⟩ arg7 X7 w hX7 c' l _ rfl)
            intro a
            match a with
            | ⟨0, _⟩ => show c'.val = 0 + c'.val; omega
            | ⟨1, _⟩ => show l.val = 0 + l.val; omega
        · exact absurd hq List.not_mem_nil
    · exact ih (Nat.le_of_succ_le hn) q hq

end Cert.Dw

end
-- ==== Proof.Body.lean ====
/- The cases of the kernel's body: what the first grid point stores for all of them, and the output block of every point. -/
module

public import proofs.«01_k».proof.Proof.Loop
public import proofs.«01_k».proof.Proof.Gen.KernelIdeal.Frame

@[expose] public section

set_option maxRecDepth 16384

noncomputable section

namespace Cert.Dw

open Cert.KernelIdeal Cert.KernelIdeal.Gen Idealize.ShloMosaic Idealize.ShloMosaic.TcCoe

/-- The one word of a scalar argument. -/
def word (x : Vec Ideal S1 .i32) : BitVec 32 := x (ix1 (0 : Fin 1))

/-- A scalar argument as loaded. -/
theorem load_word (arg : Memref sig .tc .smem S1 .i32) (harg : arg.IsWhole) (x : Vec Ideal S1 .i32)
    (j : (Rect.unit (s := S1) ![0] S1.size inb_S1_S1_0).toLoadRect.shape.Idx) :
    arg.view.readAt (Elt Ideal) (Rect.unit (s := S1) ![0] S1.size inb_S1_S1_0).toLoadRect (harg.unread x) j = word x := by
  rw [harg.readAt_unread]
  unfold word
  congr 1
  funext a
  match a with
  | ⟨0, _⟩ => exact Subsingleton.elim (α := Fin 1) _ _

/-- The weights as loaded. -/
theorem load_w (arg4 : Memref sig .tc .vmem S1x3x3x32 .i8) (harg4 : arg4.IsWhole) (x3 : Vec Ideal S1x3x3x32 .i8) :
    arg4.view.readAt (Elt Ideal) (Rect.unit (s := S1x3x3x32) ![0, 0, 0, 0] S1x3x3x32.size inb_S1x3x3x32_S1x3x3x32_0_0_0_0).toLoadRect
      (harg4.unread x3) = x3 := by
  funext j
  rw [harg4.readAt_unread]
  congr 1
  funext a
  match a with
  | ⟨0, _⟩ | ⟨1, _⟩ | ⟨2, _⟩ | ⟨3, _⟩ => exact Fin.ext (by simp [LoadRect.idx_apply])

/-- The parameters as loaded. -/
theorem load_p (arg5 : Memref sig .tc .vmem S3x32 .i32) (harg5 : arg5.IsWhole) (x4 : Vec Ideal S3x32 .i32) :
    arg5.view.readAt (Elt Ideal) (Rect.unit (s := S3x32) ![0, 0] S3x32.size inb_S3x32_S3x32_0_0).toLoadRect
      (harg5.unread x4) = x4 := by
  funext j
  rw [harg5.readAt_unread]
  congr 1
  funext a
  match a with
  | ⟨0, _⟩ | ⟨1, _⟩ => exact Fin.ext (by simp [LoadRect.idx_apply])

variable (c : Dev nD) (i : grid0.Coords) (arg1 : Memref sig .tc .smem S1 .i32) (harg1 : arg1.IsWhole) (arg2 : Memref sig .tc .smem S1 .i32) (harg2 : arg2.IsWhole)
  (arg3 : Memref sig .tc .vmem S1x448x32x256 .i8) (harg3 : arg3.IsWhole) (arg4 : Memref sig .tc .vmem S1x3x3x32 .i8) (harg4 : arg4.IsWhole)
  (arg5 : Memref sig .tc .vmem S3x32 .i32) (harg5 : arg5.IsWhole) (arg6 : Memref sig .tc .vmem S1x224x32x128 .i8) (harg6 : arg6.IsWhole)
  (arg7 : Memref sig .tc .vmem S32x288 .bf16) (harg7 : arg7.IsWhole) (arg8 : Memref sig .tc .vmem S3x32x128 .i32) (harg8 : arg8.IsWhole)

/-- The nine squares the first point stores agree with the weights. -/
theorem squares_agree (x3 : Vec Ideal S1x3x3x32 .i8) :
    ∀ q ∈ kernelRun0_A.sl.HS0_9 (F := Ideal) c arg4 harg4 x3, ∀ j : q.1.shape.Idx, q.2 j = weights x3 (q.1.emb j) := by
  intro q hq
  unfold kernelRun0_A.sl.HS0_9 kernelRun0_A.sl.r_4 kernelRun0_A.sl.r_3 kernelRun0_A.sl.r_2 at hq
  rw [load_w] at hq
  simp only [List.mem_cons, List.not_mem_nil, or_false] at hq
  rcases hq with rfl | rfl | rfl | rfl | rfl | rfl | rfl | rfl | rfl
  · exact fun j => square_apply x3 8 ![8, 0] rfl rfl _ j _ (by show 0 + 1 * (j 0).val = (j 0).val; omega)
      (by show 256 + 1 * (j 1).val = 32 * 8 + (j 1).val; omega)
  · exact fun j => square_apply x3 7 ![7, 0] rfl rfl _ j _ (by show 0 + 1 * (j 0).val = (j 0).val; omega)
      (by show 224 + 1 * (j 1).val = 32 * 7 + (j 1).val; omega)
  · exact fun j => square_apply x3 6 ![6, 0] rfl rfl _ j _ (by show 0 + 1 * (j 0).val = (j 0).val; omega)
      (by show 192 + 1 * (j 1).val = 32 * 6 + (j 1).val; omega)
  · exact fun j => square_apply x3 5 ![5, 0] rfl rfl _ j _ (by show 0 + 1 * (j 0).val = (j 0).val; omega)
      (by show 160 + 1 * (j 1).val = 32 * 5 + (j 1).val; omega)
  · exact fun j => square_apply x3 4 ![4, 0] rfl rfl _ j _ (by show 0 + 1 * (j 0).val = (j 0).val; omega)
      (by show 128 + 1 * (j 1).val = 32 * 4 + (j 1).val; omega)
  · exact fun j => square_apply x3 3 ![3, 0] rfl rfl _ j _ (by show 0 + 1 * (j 0).val = (j 0).val; omega)
      (by show 96 + 1 * (j 1).val = 32 * 3 + (j 1).val; omega)
  · exact fun j => square_apply x3 2 ![2, 0] rfl rfl _ j _ (by show 0 + 1 * (j 0).val = (j 0).val; omega)
      (by show 64 + 1 * (j 1).val = 32 * 2 + (j 1).val; omega)
  · exact fun j => square_apply x3 1 ![1, 0] rfl rfl _ j _ (by show 0 + 1 * (j 0).val = (j 0).val; omega)
      (by show 32 + 1 * (j 1).val = 32 * 1 + (j 1).val; omega)
  · exact fun j => square_apply x3 0 ![0, 0] rfl rfl _ j _ (by show 0 + 1 * (j 0).val = (j 0).val; omega)
      (by show 0 + 1 * (j 1).val = 32 * 0 + (j 1).val; omega)

/-- The three slabs the first point stores agree with the parameters. -/
theorem slabs_agree (x0 : Vec Ideal S1 .i32) (x3 : Vec Ideal S1x3x3x32 .i8) (x4 : Vec Ideal S3x32 .i32) :
    ∀ q ∈ kernelRun0_A.sl.HS1_3 (F := Ideal) c arg1 harg1 arg4 harg4 arg5 harg5 x0 x3 x4,
      ∀ j : q.1.shape.Idx, q.2 j = params (word x0) x3 x4 (q.1.emb j) := by
  intro q hq
  unfold kernelRun0_A.sl.HS1_3 kernelRun0_A.sl.r_5 kernelRun0_A.sl.r_2 kernelRun0_A.sl.r at hq
  rw [load_w, load_p, load_word] at hq
  simp only [List.mem_cons, List.not_mem_nil, or_false] at hq
  rcases hq with rfl | rfl | rfl
  · intro j
    idx_vars j
    obtain rfl : j0 = 0 := Subsingleton.elim (α := Fin 1) _ _
    refine (pay24_apply (word x0) x3 x4 j1 j2).trans ?_
    show par (word x0) x3 x4 2 j1 = par (word x0) x3 x4 _ _
    congr 1
    exact Fin.ext (by show j1.val = 0 + 1 * j1.val; omega)
  · intro j
    idx_vars j
    obtain rfl : j0 = 0 := Subsingleton.elim (α := Fin 1) _ _
    refine (pay23_apply (word x0) x3 x4 j1 j2).trans ?_
    show par (word x0) x3 x4 1 j1 = par (word x0) x3 x4 _ _
    congr 1
    exact Fin.ext (by show j1.val = 0 + 1 * j1.val; omega)
  · intro j
    idx_vars j
    obtain rfl : j0 = 0 := Subsingleton.elim (α := Fin 1) _ _
    refine (pay22_apply (word x0) x3 x4 j1 j2).trans ?_
    show par (word x0) x3 x4 0 j1 = par (word x0) x3 x4 _ _
    congr 1
    exact Fin.ext (by show j1.val = 0 + 1 * j1.val; omega)

variable (hc0 : cond0_0 i)
  (x0 : Vec Ideal S1 .i32) (x1 : Vec Ideal S1 .i32) (x2 : Vec Ideal S1x448x32x256 .i8) (x3 : Vec Ideal S1x3x3x32 .i8) (x4 : Vec Ideal S3x32 .i32)

/-- The weights the first point leaves. -/
theorem sout_A_0 : sout0_A_0 (F := Ideal) c i arg1 harg1 arg2 harg2 arg3 harg3 arg4 harg4 arg5 harg5 arg6 harg6 arg7 harg7 arg8 harg8 hc0 x0 x1 x2 x3 x4 = weights x3 := by
  unfold sout0_A_0
  exact funext fun y => View.read_writes_apply_of_pieces _ _ (weights x3) _ (squares_agree c arg4 harg4 x3) y
    (scover0_A_0 (F := Ideal) c i arg1 harg1 arg2 harg2 arg3 harg3 arg4 harg4 arg5 harg5 arg6 harg6 arg7 harg7 arg8 harg8 hc0 x0 x1 x2 x3 x4 y)

/-- The parameters the first point leaves. -/
theorem sout_A_1 : sout0_A_1 (F := Ideal) c i arg1 harg1 arg2 harg2 arg3 harg3 arg4 harg4 arg5 harg5 arg6 harg6 arg7 harg7 arg8 harg8 hc0 x0 x1 x2 x3 x4 = params (word x0) x3 x4 := by
  unfold sout0_A_1
  exact funext fun y => View.read_writes_apply_of_pieces _ _ (params (word x0) x3 x4) _ (slabs_agree c arg1 harg1 arg4 harg4 arg5 harg5 x0 x3 x4) y
    (scover0_A_1 (F := Ideal) c i arg1 harg1 arg2 harg2 arg3 harg3 arg4 harg4 arg5 harg5 arg6 harg6 arg7 harg7 arg8 harg8 hc0 x0 x1 x2 x3 x4 y)

/-- The first point's output block. -/
theorem out_A : out0_A_5 (F := Ideal) c i arg1 harg1 arg2 harg2 arg3 harg3 arg4 harg4 arg5 harg5 arg6 harg6 arg7 harg7 arg8 harg8 hc0 x0 x1 x2 x3 x4 = block (word x0) (word x1) x2 x3 x4 := by
  have h0 : kernelRun0_A.sl.r (F := Ideal) c arg1 harg1 x0 = word x0 := load_word arg1 harg1 x0 _
  have h1 : kernelRun0_A.sl.r_1 (F := Ideal) c arg2 harg2 x1 = word x1 := load_word arg2 harg2 x1 _
  have h7 : arg7.view.read (Elt Ideal) (arg7.view.writes (Elt Ideal) arg7.view.junk (kernelRun0_A.sl.HS0_9 (F := Ideal) c arg4 harg4 x3)) = weights x3 :=
    funext fun y => View.read_writes_apply_of_pieces _ _ (weights x3) _ (squares_agree c arg4 harg4 x3) y
      (scover0_A_0 (F := Ideal) c i arg1 harg1 arg2 harg2 arg3 harg3 arg4 harg4 arg5 harg5 arg6 harg6 arg7 harg7 arg8 harg8 hc0 x0 x1 x2 x3 x4 y)
  have h8 : arg8.view.read (Elt Ideal) (arg8.view.writes (Elt Ideal) arg8.view.junk
      (kernelRun0_A.sl.HS1_3 (F := Ideal) c arg1 harg1 arg4 harg4 arg5 harg5 x0 x3 x4)) = params (kernelRun0_A.sl.r (F := Ideal) c arg1 harg1 x0) x3 x4 := by
    rw [h0]
    exact funext fun y => View.read_writes_apply_of_pieces _ _ (params (word x0) x3 x4) _ (slabs_agree c arg1 harg1 arg4 harg4 arg5 harg5 x0 x3 x4) y
      (scover0_A_1 (F := Ideal) c i arg1 harg1 arg2 harg2 arg3 harg3 arg4 harg4 arg5 harg5 arg6 harg6 arg7 harg7 arg8 harg8 hc0 x0 x1 x2 x3 x4 y)
  have hp := pieces_agree c i arg1 harg1 arg2 harg2 arg3 harg3 arg4 harg4 arg5 harg5 arg6 harg6 arg7 harg7 arg8 harg8 (kernelRun0_A.sl.r (F := Ideal) c arg1 harg1 x0) (kernelRun0_A.sl.r_1 (F := Ideal) c arg2 harg2 x1)
    (harg3.unread x2) _ _ x2 x3 x4 (harg3.read_unread x2) h7 h8 k0_t1_loop.trips le_rfl
  rw [h0, h1] at hp
  funext y
  refine View.read_writes_apply_of_pieces _ _ (block (word x0) (word x1) x2 x3 x4) _ ?_ y (cover0_A_5 (F := Ideal) c i arg1 harg1 arg2 harg2 arg3 harg3 arg4 harg4 arg5 harg5 arg6 harg6 arg7 harg7 arg8 harg8 hc0 x0 x1 x2 x3 x4 y)
  unfold kernelRun0_A
  dsimp only
  rw [h0, h1]
  exact hp

omit hc0 in
/-- A later point's output block, over the weights and the parameters the first left. -/
theorem out_B (hc0 : ¬cond0_0 i) (xs0 : Vec Ideal S32x288 .bf16) (xs1 : Vec Ideal S3x32x128 .i32) (w : IVec S1x3x3x32 8) (p : IVec S3x32 32)
    (hs0 : xs0 = weights w) (hs1 : xs1 = params (word x0) w p) :
    out0_B_5 (F := Ideal) c i arg1 harg1 arg2 harg2 arg3 harg3 arg4 harg4 arg5 harg5 arg6 harg6 arg7 harg7 arg8 harg8 hc0 x0 x1 x2 x3 x4 xs0 xs1
      = block (word x0) (word x1) x2 w p := by
  have h0 : kernelRun0_B.sl.r (F := Ideal) c arg1 harg1 x0 = word x0 := load_word arg1 harg1 x0 _
  have h1 : kernelRun0_B.sl.r_1 (F := Ideal) c arg2 harg2 x1 = word x1 := load_word arg2 harg2 x1 _
  have hp := pieces_agree c i arg1 harg1 arg2 harg2 arg3 harg3 arg4 harg4 arg5 harg5 arg6 harg6 arg7 harg7 arg8 harg8 (word x0) (word x1)
    (harg3.unread x2) (harg7.unread xs0) (harg8.unread xs1) x2 w p (harg3.read_unread x2) ((harg7.read_unread xs0).trans hs0)
    ((harg8.read_unread xs1).trans hs1) k0_t1_loop.trips le_rfl
  funext y
  refine View.read_writes_apply_of_pieces _ _ (block (word x0) (word x1) x2 w p) _ ?_ y
    (cover0_B_5 (F := Ideal) c i arg1 harg1 arg2 harg2 arg3 harg3 arg4 harg4 arg5 harg5 arg6 harg6 arg7 harg7 arg8 harg8 hc0 x0 x1 x2 x3 x4 xs0 xs1 y)
  unfold kernelRun0_B
  dsimp only
  rw [h0, h1]
  exact hp

end Cert.Dw

end
-- ==== Proof.Value.lean ====
/- The blocks the kernel reads as functions of its arguments, and what it leaves in its result. -/
module

public import proofs.«01_k».proof.Proof.Body
public import Idealize.ShloMosaic.Lib.Pipeline.ValueKit.Point

@[expose] public section

set_option maxRecDepth 16384

noncomputable section

namespace Cert.Dw

open Cert.KernelIdeal Cert.KernelIdeal.Gen Idealize.ShloMosaic Idealize.ShloMosaic.TcCoe Idealize.SL.Sem
open Idealize.ShloMosaic.Pipeline (Dat)

/-- One image with its axes as the kernel reads them: column, channel, row. -/
def image (a : IVec S16x256x448x32 8) (n : Fin 16) : IVec S1x448x32x256 8 := fun y =>
  a (ix4 n (y 3 : Fin 256) (y 1 : Fin 448) (y 2 : Fin 32))

/-- The three rows of per-channel parameters: bias, multiplier, shift. -/
def rows (b mu sh : IVec S32 32) : IVec S3x32 32 := fun y =>
  (![b, mu, sh] : Fin 3 → IVec S32 32) (y 0) (ix1 (y 1 : Fin 32))

variable (m : (ℓ : Loc nD τ sig) → Buf (Elt Ideal) ℓ) (ρ : Dev nD → PrngReg) (c : Dev nD)

/-- The block of operand 0 at grid step `t` is the first. -/
theorem idx0 : ∀ t : Fin cfg0.N, win0_0.index t = ![0] := (by decide +kernel : ∀ t : Fin grid0.N, win0_0.index t = ![0])
/-- The block of operand 1 at grid step `t` is the first. -/
theorem idx1 : ∀ t : Fin cfg0.N, win0_1.index t = ![0] := (by decide +kernel : ∀ t : Fin grid0.N, win0_1.index t = ![0])
/-- The block of operand 2 at grid step `t` is the one of image `t`. -/
theorem idx2 : ∀ t : Fin cfg0.N, win0_2.index t = ![t.val, 0, 0, 0] := (by decide +kernel : ∀ t : Fin grid0.N, win0_2.index t = ![t.val, 0, 0, 0])
/-- The block of operand 3 at grid step `t` is the first. -/
theorem idx3 : ∀ t : Fin cfg0.N, win0_3.index t = ![0, 0, 0, 0] := (by decide +kernel : ∀ t : Fin grid0.N, win0_3.index t = ![0, 0, 0, 0])
/-- The block of operand 4 at grid step `t` is the first. -/
theorem idx4 : ∀ t : Fin cfg0.N, win0_4.index t = ![0, 0] := (by decide +kernel : ∀ t : Fin grid0.N, win0_4.index t = ![0, 0])
/-- The block of operand 5 at grid step `t` is the one of image `t`. -/
theorem idx5 : ∀ t : Fin cfg0.N, win0_5.index t = ![t.val, 0, 0, 0] := (by decide +kernel : ∀ t : Fin grid0.N, win0_5.index t = ![t.val, 0, 0, 0])

/-- The input zero point as read. -/
theorem iblk0 (t : Fin cfg0.N) : (iblk m c 0 t : Vec Ideal S1 .i32) = m ((c : Thread nD τ).loc main_arg1) := by
  blk_ext! [iblk, V, idx0 t]

/-- The output zero point as read. -/
theorem iblk1 (t : Fin cfg0.N) : (iblk m c 1 t : Vec Ideal S1 .i32) = m ((c : Thread nD τ).loc main_arg6) := by
  blk_ext! [iblk, V, idx1 t]

/-- The weights as read. -/
theorem iblk3 (t : Fin cfg0.N) : (iblk m c 3 t : Vec Ideal S1x3x3x32 .i8) = m ((c : Thread nD τ).loc main_arg2) := by
  blk_ext! [iblk, V, idx3 t]

/-- The images as the region finds them: transposed. -/
theorem V_v0 : V m c main_v0 = (transpose S16x448x32x256 [0, 2, 3, 1] (m ((c : Thread nD τ).loc main_arg0))
    transposes_S16x256x448x32_S16x448x32x256_0_2_3_1 : IVec S16x448x32x256 8) := by
  simp only [V, V0, hostOps0, List.flatten_cons, List.flatten_nil, List.append_nil, List.cons_append, List.nil_append]
  after_results

/-- The parameters as the region finds them: the three vectors one above the other. -/
theorem V_v4 : V m c main_v4 = (concatenate S3x32 0 [⟨S1x32, (broadcastInDim S1x32 ![1] bcast_S32_S1x32_1 (m ((c : Thread nD τ).loc main_arg3) : IVec S32 32))⟩,
    ⟨S1x32, (broadcastInDim S1x32 ![1] bcast_S32_S1x32_1 (m ((c : Thread nD τ).loc main_arg4) : IVec S32 32))⟩,
    ⟨S1x32, (broadcastInDim S1x32 ![1] bcast_S32_S1x32_1 (m ((c : Thread nD τ).loc main_arg5) : IVec S32 32))⟩] concatenates_S1x32_S1x32_S1x32_S3x32_d0 : IVec S3x32 32) := by
  simp only [V, V0, hostOps0, List.flatten_cons, List.flatten_nil, List.append_nil, List.cons_append, List.nil_append]
  simp only [StableHlo.after_cons, StableHlo.after_nil]
  rw [StableHlo.nary_result]
  generalize hW : HloOp.result _ _ = W
  have h1 : W (Proc.devRef .tc main_v1) = (broadcastInDim S1x32 ![1] bcast_S32_S1x32_1 (m ((c : Thread nD τ).loc main_arg3) : IVec S32 32) : IVec S1x32 32) := by
    rw [← hW]; after_results
  have h2 : W (Proc.devRef .tc main_v2) = (broadcastInDim S1x32 ![1] bcast_S32_S1x32_1 (m ((c : Thread nD τ).loc main_arg4) : IVec S32 32) : IVec S1x32 32) := by
    rw [← hW]; after_results
  have h3 : W (Proc.devRef .tc main_v3) = (broadcastInDim S1x32 ![1] bcast_S32_S1x32_1 (m ((c : Thread nD τ).loc main_arg5) : IVec S32 32) : IVec S1x32 32) := by
    rw [← hW]; after_results
  rw [← h1, ← h2, ← h3]
  rfl

/-- The image of a point as read. -/
theorem iblk2 (t : Fin cfg0.N) : (iblk m c 2 t : Vec Ideal S1x448x32x256 .i8) = image (m ((c : Thread nD τ).loc main_arg0)) (t.cast N_0) := by
  funext y
  show V m c main_v0 ((win0_2.blk t).view.emb y) = _
  rw [V_v0]
  refine (transpose_apply (s := S16x256x448x32) (t := S16x448x32x256) _ _ _ _ (ix4 (t.cast N_0) (y 3 : Fin 256) (y 1 : Fin 448) (y 2 : Fin 32)) ?_).trans rfl
  intro b
  have h0 : (y 0).val < 1 := (y 0).isLt
  fin_cases b
  all_goals blk_simp [idx2 t]
  all_goals simp [ix4]

/-- The parameters as read. -/
theorem iblk4 (t : Fin cfg0.N) : (iblk m c 4 t : Vec Ideal S3x32 .i32)
    = rows (m ((c : Thread nD τ).loc main_arg3)) (m ((c : Thread nD τ).loc main_arg4)) (m ((c : Thread nD τ).loc main_arg5)) := by
  funext y
  show V m c main_v4 ((win0_4.blk t).view.emb y) = _
  have e : (win0_4.blk t).view.emb y = y := by blk_ext [idx4 t]
  rw [V_v4, e]
  idx_vars y
  fin_cases y0
  all_goals pointwise
  all_goals rfl

/-- The weights and the parameters kept between the points are those of the first, and a point's output block is its image's. -/
theorem outs (n : ℕ) : ∀ hn : n < cfg0.N,
    (outsAt0 m c n hn).2.1 = weights (m ((c : Thread nD τ).loc main_arg2))
    ∧ (outsAt0 m c n hn).2.2 = params (word (m ((c : Thread nD τ).loc main_arg1))) (m ((c : Thread nD τ).loc main_arg2))
        (rows (m ((c : Thread nD τ).loc main_arg3)) (m ((c : Thread nD τ).loc main_arg4)) (m ((c : Thread nD τ).loc main_arg5)))
    ∧ (outsAt0 m c n hn).1 = block (word (m ((c : Thread nD τ).loc main_arg1))) (word (m ((c : Thread nD τ).loc main_arg6)))
        (image (m ((c : Thread nD τ).loc main_arg0)) (⟨n, hn.trans_eq N_0⟩)) (m ((c : Thread nD τ).loc main_arg2))
        (rows (m ((c : Thread nD τ).loc main_arg3)) (m ((c : Thread nD τ).loc main_arg4)) (m ((c : Thread nD τ).loc main_arg5))) := by
  induction n with
  | zero =>
    intro hn
    have e := outsAt0_A m c ⟨0, hn⟩ rfl
    dsimp only at e
    rw [e]
    dsimp only
    rw [sout_A_0, sout_A_1, out_A, iblk0, iblk1, iblk2, iblk3, iblk4]
    exact ⟨rfl, rfl, rfl⟩
  | succ n ih =>
    intro hn
    have hN : n + 1 < 16 := hn.trans_eq N_0
    obtain ⟨i0, i1, -⟩ := ih (Nat.lt_of_succ_lt hn)
    have e := outsAt0_B m c ⟨n + 1, hn⟩ (by dsimp only; omega)
    dsimp only at e
    rw [e]
    dsimp only
    refine ⟨i0, i1, ?_⟩
    have j0 : (outsAt0 m c (n + 1 - 1) (Nat.lt_of_succ_lt hn)).2.1 = weights (m ((c : Thread nD τ).loc main_arg2)) := i0
    have j1 : (outsAt0 m c (n + 1 - 1) (Nat.lt_of_succ_lt hn)).2.2 = params (word (iblk m c 0 ⟨n + 1, hn⟩)) (m ((c : Thread nD τ).loc main_arg2))
        (rows (m ((c : Thread nD τ).loc main_arg3)) (m ((c : Thread nD τ).loc main_arg4)) (m ((c : Thread nD τ).loc main_arg5))) := by
      rw [iblk0]
      exact i1
    rw [out_B (hs0 := j0) (hs1 := j1), iblk0, iblk1, iblk2]
    rfl

/-- The kernel's array before its last transpose: the blocks of the sixteen images. -/
def array (a : IVec S16x256x448x32 8) (z : IVec S1 32) (w : IVec S1x3x3x32 8) (b mu sh : IVec S32 32) (zo : IVec S1 32) : IVec S16x224x32x128 8 := fun y =>
  block (z (ix1 (0 : Fin 1))) (zo (ix1 (0 : Fin 1))) (image a (y 0)) w (rows b mu sh) (ix4 (0 : Fin 1) (y 1 : Fin 224) (y 2 : Fin 32) (y 3 : Fin 128))

/-- The array after the last point. -/
theorem final : (dats m 0 c).arrAt 5 cfg0.N = array (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) := by
  refine (dats m 0 c).arrAt_eq_of_covers 5 _ (by decide +kernel) fun t hf y => ?_
  blk_simp
  rw [after0_5, (outs m c t.val t.isLt).2.2]
  have e : (win0_5.blk t).view.emb y = ix4 (⟨t.val, t.isLt.trans_eq N_0⟩ : Fin 16) (y 1 : Fin 224) (y 2 : Fin 32) (y 3 : Fin 128) := by blk_ext [idx5 t]
  rw [e]
  show block _ _ _ _ _ y = block _ _ _ _ _ _
  congr 1
  funext a
  match a with
  | ⟨0, _⟩ => exact Subsingleton.elim (α := Fin 1) _ _
  | ⟨1, _⟩ | ⟨2, _⟩ | ⟨3, _⟩ => rfl

/-- The kernel's result: the array with its axes in the order image, row, column, channel. -/
def result (a : IVec S16x256x448x32 8) (z : IVec S1 32) (w : IVec S1x3x3x32 8) (b mu sh : IVec S32 32) (zo : IVec S1 32) : IVec S16x128x224x32 8 :=
  transpose S16x128x224x32 [0, 3, 1, 2] (array a z w b mu sh zo) transposes_S16x224x32x128_S16x128x224x32_0_3_1_2

/-- The line after the region. -/
theorem tail : Pipeline.afterTail₀ cfgs (dats m) 0 (V0 m) [hostOps1] c main_v6
    = result (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) := by
  unfold Pipeline.afterTail₀
  simp only [hostOps1, List.flatten_cons, List.flatten_nil, List.append_nil, List.cons_append, List.nil_append]
  after_results
  unfold result
  rw [← final m c]
  congr 1
  exact Pipeline.withArrays_arr spec0 launch0.win.arr_inj c (V0 m c) (fun w => (dats m 0 c).arrAt w cfg0.N) 5

/-- The kernel runs to its end with its result there and its arguments unchanged. -/
theorem run_kernel : θ_run defs (onTc (τ := τ) (main (F := Ideal))) ⟨m, fun _ => 0, ρ⟩ (fun r => ∀ c : Dev nD,
      r.2.mem ((c.tc : Thread nD τ).loc main_v6) = result (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  θ_run_mono (θ_run_and (run_main m ρ) (unchanged m ρ)) fun r h c =>
    ⟨((h.1 c).2 main_v6 (Pipeline.mem_restRefs_of main_v6 (by decide) (by decide))).trans (tail m c), h.2 c⟩

end Cert.Dw

end
-- ==== Proof.Ref.lean ====
/- The reference's result, element by element. -/
module

public import proofs.«01_k».proof.Proof.Value
public import proofs.«01_k».proof.Proof.Gen.ReferenceIdeal.Run

@[expose] public section

set_option maxRecDepth 16384

noncomputable section

namespace Cert.Dw

open Cert.ReferenceIdeal Cert.ReferenceIdeal.Value Idealize.ShloMosaic Idealize.ShloMosaic.TcCoe

variable (V0 : Valuation τ sig (Elt Ideal))

/-- The image argument. -/
def aX : IVec S16x256x448x32 8 := V0 (Proc.devRef .tc main_arg0)
/-- The input zero point argument. -/
def aZ : IVec S1 32 := V0 (Proc.devRef .tc main_arg1)
/-- The weights argument. -/
def aW : IVec S1x3x3x32 8 := V0 (Proc.devRef .tc main_arg2)
/-- The bias argument. -/
def aB : IVec S32 32 := V0 (Proc.devRef .tc main_arg3)
/-- The multiplier argument. -/
def aM : IVec S32 32 := V0 (Proc.devRef .tc main_arg4)
/-- The shift argument. -/
def aS : IVec S32 32 := V0 (Proc.devRef .tc main_arg5)
/-- The output zero point argument. -/
def aO : IVec S1 32 := V0 (Proc.devRef .tc main_arg6)

/-- The input zero point. -/
theorem v0_apply (j : S_.Idx) : res_main_v0 V0 j = aZ V0 (ix1 (0 : Fin 1)) := by
  unfold res_main_v0
  refine (shapeCast_apply (s := S1) (t := S_) _ _ _ (ix1 (0 : Fin 1)) ?_).trans rfl
  rfl

/-- The padded images: the low byte of the zero point below and to the right. -/
theorem v2_apply (n : Fin 16) (h : Fin 257) (w : Fin 449) (c : Fin 32) :
    res_main_v2 V0 (ix4 n h w c) = pix (aZ V0 (ix1 (0 : Fin 1))) (image (aX V0) n) w.val h.val c := by
  unfold res_main_v2 pix
  by_cases hwh : w.val < 448 ∧ h.val < 256
  · rw [dif_pos hwh]
    refine (pad_apply_of_inside (s := S16x256x448x32) (t := S16x257x449x32) _ _ _ _ _ _ _ _ (ix4 n (⟨h.val, hwh.2⟩ : Fin 256) (⟨w.val, hwh.1⟩ : Fin 448) c) ?_).trans rfl
    intro a
    fin_cases a
    all_goals simp [ix4]
  · rw [dif_neg hwh]
    have e : (trunci 8 (res_main_v0 V0) Gen.natLt_8_32 : IVec S_ 8) (Shape.Idx.first Gen.h_S_) = (aZ V0 (ix1 (0 : Fin 1))).setWidth 8 :=
      congrArg (BitVec.setWidth 8) (v0_apply V0 _)
    by_cases hw : w.val < 448
    · refine (pad_apply_of_not_inside (s := S16x256x448x32) (t := S16x257x449x32) _ _ _ _ _ _ _ _ (1 : Fin 4) ?_).trans e
      have hh : ¬h.val < 256 := fun hh => hwh ⟨hw, hh⟩
      rintro ⟨-, -, h3⟩
      change (h.val - 0) / 1 < 256 at h3
      omega
    · refine (pad_apply_of_not_inside (s := S16x256x448x32) (t := S16x257x449x32) _ _ _ _ _ _ _ _ (2 : Fin 4) ?_).trans e
      rintro ⟨-, -, h3⟩
      change (w.val - 0) / 1 < 448 at h3
      omega

/-- At 32 bits the arithmetic right shift of the reference and of the kernel agree, for any amount. -/
theorem host_shrsi (x y : BitVec 32) : IntOp.shrsi .host x y = IntOp.shrsi .vector x y := by
  first | rfl | (unfold IntOp.shrsi; split <;> rfl)
/-- At 32 bits the logical right shift of the reference and of the kernel agree, for any amount. -/
theorem host_shrui (x y : BitVec 32) : IntOp.shrui .host x y = IntOp.shrui .vector x y := by
  first | rfl | (unfold IntOp.shrui; split <;> rfl)
/-- At 32 bits the left shift of the reference and of the kernel agree, for any amount. -/
theorem host_shli (x y : BitVec 32) : IntOp.shli .host x y = IntOp.shli .vector x y := by
  first | rfl | (unfold IntOp.shli; split <;> rfl)

/-- Widening a comparison is selecting one or zero by it. -/
theorem widen (p : BitVec 1) : p.setWidth 32 = Scalar.select p 1#32 0#32 := by
  revert p
  decide

/-- Adding up constants word by word is the constant of the sum. -/
theorem fold_ofInt {ι : Type} (s : Finset ι) (f : ι → ℤ) :
    Finset.fold IntOp.addi 0#32 (fun i => BitVec.ofInt 32 (f i)) s = BitVec.ofInt 32 (∑ i ∈ s, f i) := by
  classical
  induction s using Finset.induction_on with
  | empty => rfl
  | insert a s ha ih => rw [Finset.sum_insert ha, Finset.fold_insert ha, ih, BitVec.ofInt_add]; rfl

/-- The nine taps. -/
theorem conv_apply (n : Fin 16) (ho : Fin 128) (wo : Fin 224) (c : Fin 32) :
    (res_main_v84 V0 (ix4 n ho wo c) : BitVec 32)
      = BitVec.ofInt 32 (∑ t, (taps (aZ V0 (ix1 (0 : Fin 1))) (image (aX V0) n) c wo.val ho.val t).toInt * (wgt (aW V0) c t).toInt) := by
  have ht : ∀ (t : Fin 9) (w h : ℕ), w = 2 * wo.val + t.val % 3 → h = 2 * ho.val + t.val / 3 →
      pix (aZ V0 (ix1 (0 : Fin 1))) (image (aX V0) n) w h c = taps (aZ V0 (ix1 (0 : Fin 1))) (image (aX V0) n) c wo.val ho.val t := by
    intro t w h hw hh
    rw [hw, hh]
    rfl
  simp only [Fin.sum_univ_castSucc, Fin.sum_univ_zero, BitVec.ofInt_add, ← ext_mul]
  unfold res_main_v84
  pointwise
  simp only [v2_apply]
  rw [ht 0 (2 * wo.val) (2 * ho.val) rfl rfl, ht 1 (1 + 2 * wo.val) (2 * ho.val) (Nat.add_comm ..) rfl, ht 2 (2 + 2 * wo.val) (2 * ho.val) (Nat.add_comm ..) rfl,
    ht 3 (2 * wo.val) (1 + 2 * ho.val) rfl (Nat.add_comm ..), ht 4 (1 + 2 * wo.val) (1 + 2 * ho.val) (Nat.add_comm ..) (Nat.add_comm ..),
    ht 5 (2 + 2 * wo.val) (1 + 2 * ho.val) (Nat.add_comm ..) (Nat.add_comm ..), ht 6 (2 * wo.val) (2 + 2 * ho.val) rfl (Nat.add_comm ..),
    ht 7 (1 + 2 * wo.val) (2 + 2 * ho.val) (Nat.add_comm ..) (Nat.add_comm ..), ht 8 (2 + 2 * wo.val) (2 + 2 * ho.val) (Nat.add_comm ..) (Nat.add_comm ..)]
  rfl

/-- The sum of a channel's weights. -/
theorem wsum_ref (c : Fin 32) :
    (Host.reduce IntOp.addi (extsi 32 (V0 (Proc.devRef .tc main_arg2)) Gen.natLt_8_32) (constantI S_ 32 0#32) Gen.reducesTo_S1x3x3x32_S32_d0_1_2 Gen.h_S_ : IVec S32 32) (ix1 c)
      = BitVec.ofInt 32 (∑ t, (wgt (aW V0) c t).toInt) := by
  pointwise
  have chan : ∀ i : S1x3x3x32.Idx, Gen.reducesTo_S1x3x3x32_S32_d0_1_2.drop i = ix1 c → i 3 = c := fun i hi =>
    Fin.ext ((Shape.ReducesTo.drop_apply_val Gen.reducesTo_S1x3x3x32_S32_d0_1_2 i 0).symm.trans (congrArg Fin.val (congrFun hi 0)))
  have back : ∀ i : S1x3x3x32.Idx, i 3 = c →
      ix4 (0 : Fin 1) (⟨(3 * (i 1).val + (i 2).val) / 3, by have h1 : (i 1).val < 3 := (i 1).isLt; have h2 : (i 2).val < 3 := (i 2).isLt; omega⟩ : Fin 3)
        (⟨(3 * (i 1).val + (i 2).val) % 3, by omega⟩ : Fin 3) c = i := by
    intro i hi
    have h0 : (i 0).val < 1 := (i 0).isLt
    have h2 : (i 2).val < 3 := (i 2).isLt
    funext a
    fin_cases a
    · exact Fin.ext (by show 0 = (i 0).val; omega)
    · exact Fin.ext (by show (3 * (i 1).val + (i 2).val) / 3 = (i 1).val; omega)
    · exact Fin.ext (by show (3 * (i 1).val + (i 2).val) % 3 = (i 2).val; omega)
    · exact hi.symm
  refine (fold_ofInt _ fun x => (aW V0 x).toInt).trans (congrArg _ ?_)
  refine Finset.sum_bij' (fun i _ => (⟨3 * (i 1).val + (i 2).val, by
      have h1 : (i 1).val < 3 := (i 1).isLt
      have h2 : (i 2).val < 3 := (i 2).isLt
      omega⟩ : Fin 9))
    (fun t _ => ix4 (0 : Fin 1) (⟨t.val / 3, by omega⟩ : Fin 3) (⟨t.val % 3, by omega⟩ : Fin 3) c) ?_ ?_ ?_ ?_ ?_
  · exact fun _ _ => Finset.mem_univ _
  · intro t _
    rw [Finset.mem_filter]
    refine ⟨Finset.mem_univ _, ?_⟩
    funext b
    fin_cases b
    exact Fin.ext (Shape.ReducesTo.drop_apply_val Gen.reducesTo_S1x3x3x32_S32_d0_1_2 _ 0)
  · intro i hi
    rw [Finset.mem_filter] at hi
    exact back i (chan i hi.2)
  · intro t _
    exact Fin.ext (by show 3 * (t.val / 3) + t.val % 3 = t.val; omega)
  · intro i hi
    rw [Finset.mem_filter] at hi
    exact congrArg (fun x => (aW V0 x).toInt) (back i (chan i hi.2)).symm

/-- An element of the reference's result is the requantised accumulator, with the channel's multiplier and negated shift. -/
theorem final_apply (n : Fin 16) (ho : Fin 128) (wo : Fin 224) (c : Fin 32) : val4 V0 (Proc.devRef .tc main_v165) (ix4 n ho wo c)
    = rq (aO V0 (ix1 (0 : Fin 1))) (res_main_v94 V0 (ix4 n ho wo c)) (aM V0 (ix1 c)) (IntOp.subi 0#32 (aS V0 (ix1 c))) := by
  rw [val4_main_v165]
  unfold res_main_v139 res_main_v109 res_main_v112 res_main_v97 res_main_v99 res_main_v101 res_main_v103 res_main_v144 res_main_v140
  simp only [id_eq]
  pointwise
  simp only [host_shrsi, host_shrui, host_shli, widen]
  rw [show IntOp.subi 0#32 (aS V0 (ix1 c)) = -aS V0 (ix1 c) from BitVec.zero_sub _]
  rfl

/-- Subtracting a term and then adding another is adding their difference. -/
theorem regroup (a b d : BitVec 32) : IntOp.addi (IntOp.subi a b) d = IntOp.addi a (IntOp.subi d b) := by
  show a - b + d = a + (d - b)
  rw [BitVec.sub_eq_add_neg, BitVec.sub_eq_add_neg, BitVec.add_assoc, BitVec.add_comm (-b) d]

/-- The accumulator with its corrections. -/
theorem acc_apply (n : Fin 16) (ho : Fin 128) (wo : Fin 224) (c : Fin 32) :
    (res_main_v94 V0 (ix4 n ho wo c) : BitVec 32)
      = IntOp.addi (BitVec.ofInt 32 (∑ t, (taps (aZ V0 (ix1 (0 : Fin 1))) (image (aX V0) n) c wo.val ho.val t).toInt * (wgt (aW V0) c t).toInt))
          (par (aZ V0 (ix1 (0 : Fin 1))) (aW V0) (rows (aB V0) (aM V0) (aS V0)) 0 c) := by
  have e : (res_main_v94 V0 (ix4 n ho wo c) : BitVec 32)
      = IntOp.addi (IntOp.subi (res_main_v84 V0 (ix4 n ho wo c)) (IntOp.muli (aZ V0 (ix1 (0 : Fin 1)))
          ((Host.reduce IntOp.addi (extsi 32 (V0 (Proc.devRef .tc main_arg2)) Gen.natLt_8_32) (constantI S_ 32 0#32) Gen.reducesTo_S1x3x3x32_S32_d0_1_2 Gen.h_S_ : IVec S32 32) (ix1 c))))
        (aB V0 (ix1 c)) := by
    unfold res_main_v94
    pointwise
    rw [v0_apply]
    rfl
  rw [e, wsum_ref, conv_apply]
  exact regroup _ _ _

/-- The reference computes `result` of its arguments. -/
theorem ref_eq : val4 V0 (Proc.devRef .tc main_v165) = result (aX V0) (aZ V0) (aW V0) (aB V0) (aM V0) (aS V0) (aO V0) := by
  funext y
  idx_vars y
  unfold result
  refine Eq.trans ?_ (transpose_apply (s := Cert.KernelIdeal.S16x224x32x128) (t := Cert.KernelIdeal.S16x128x224x32) _ _ _ _ (ix4 y0 y2 y3 y1) ?_).symm
  · refine (final_apply V0 y0 y1 y2 y3).trans ?_
    rw [acc_apply]
    rfl
  · intro b
    fin_cases b
    all_goals rfl

end Cert.Dw

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ref
public import Idealize.ShloMosaic.Adequacy
public import Idealize.ShloMosaic.Init

@[expose] public section

noncomputable section

namespace Cert.Proof

open Idealize.ShloMosaic Idealize.SL.Sem Cert.Kernel

/-- The kernel runs to its end and leaves its arguments and counters as they were. -/
theorem frame_kernel : Cert.quiescent_Kernel (hKernel := Cert.Kernel.Gen.facts) := fun m ρ _ => Cert.Kernel.Gen.frame m ρ

/-- The same of the kernel over the extended reals. -/
theorem frame_kernel_ideal : Cert.quiescent_KernelIdeal (hKernelIdeal := Cert.KernelIdeal.Gen.facts) :=
  fun m ρ _ => Cert.KernelIdeal.Gen.frame m ρ

/-- The same of the reference, which declares no counter at all. -/
theorem frame_reference_ideal : Cert.quiescent_ReferenceIdeal (hReferenceIdeal := Cert.ReferenceIdeal.Gen.facts) := by
  intro m ρ _
  exact (θ_run (Cert.ReferenceIdeal.defs (F := Ideal)) _ _).mono (fun r h => ⟨fun c => (h c).2,
    Idealize.ShloMosaic.sem_eq_zero_of_no_sems (by decide) r.2⟩) (Cert.ReferenceIdeal.Value.run (F := Ideal) m ρ)

/-- From the same arguments, the kernel and the reference end with the same int8 image, and both leave their arguments alone. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => Cert.Dw.result (m (c.tc.loc Cert.KernelIdeal.main_arg0)) (m (c.tc.loc Cert.KernelIdeal.main_arg1))
    (m (c.tc.loc Cert.KernelIdeal.main_arg2)) (m (c.tc.loc Cert.KernelIdeal.main_arg3)) (m (c.tc.loc Cert.KernelIdeal.main_arg4))
    (m (c.tc.loc Cert.KernelIdeal.main_arg5)) (m (c.tc.loc Cert.KernelIdeal.main_arg6)), Cert.Dw.run_kernel m g, ?_⟩
  refine (θ_run (Cert.ReferenceIdeal.defs (F := Ideal)) _ _).mono (fun r h c => ⟨?_, (h c).2⟩) (Cert.ReferenceIdeal.Value.run (F := Ideal) m' g')
  obtain ⟨h0, h1, h2, h3, h4, h5, h6⟩ := hm c
  refine ((h c).1.trans (Cert.ReferenceIdeal.Value.val4_main_v165 _).symm).trans ((Cert.Dw.ref_eq _).trans ?_)
  dsimp only
  rw [← h0, ← h1, ← h2, ← h3, ← h4, ← h5, ← h6]
  rfl

/-- Every claim of the certificate. -/
theorem claim : Cert.Claim :=
  ⟨Cert.Kernel.Gen.facts, Cert.KernelIdeal.Gen.facts, Cert.ReferenceIdeal.Gen.facts,
    frame_kernel, frame_kernel_ideal, frame_reference_ideal, trivial, algebraic⟩

end Cert.Proof

end
